-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norms [hPre_plain_norms : Cert.Pre_plain_norms.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norms [hPre_plain_norms : Cert.Pre_plain_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_plain_norms [hKernelIdeal : Cert.KernelIdeal.Facts] [hPre_plain_norms : Cert.Pre_plain_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_plain_norms [hReferenceIdeal : Cert.ReferenceIdeal.Facts] [hPre_plain_norms : Cert.Pre_plain_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_plain_norms [hKernelIdeal : Cert.KernelIdeal.Facts] [hReferenceIdeal : Cert.ReferenceIdeal.Facts] [hPre_plain_norms : Cert.Pre_plain_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_plain_norms : Cert.Pre_plain_norms.Facts),
    quiescent_Kernel (hKernel := hKernel)
    ∧ quiescent_KernelIdeal (hKernelIdeal := hKernelIdeal)
    ∧ quiescent_KernelIdeal_pre_plain_norms (hKernelIdeal := hKernelIdeal) (hPre_plain_norms := hPre_plain_norms)
    ∧ quiescent_ReferenceIdeal (hReferenceIdeal := hReferenceIdeal)
    ∧ quiescent_ReferenceIdeal_pre_plain_norms (hReferenceIdeal := hReferenceIdeal) (hPre_plain_norms := hPre_plain_norms)
    ∧ preserves_Kernel_KernelIdeal
    ∧ algebraic_KernelIdeal_ReferenceIdeal_pre_plain_norms (hKernelIdeal := hKernelIdeal) (hReferenceIdeal := hReferenceIdeal) (hPre_plain_norms := hPre_plain_norms)
-- ==== Pre_plain_norms.lean ====
abbrev S32768x256 : Shape := ⟨2, ![32768, 256]⟩
abbrev S32768x64 : Shape := ⟨2, ![32768, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S32768x256 : S_.BroadcastsInDim S32768x256 (![] : Fin 0 → Fin S32768x256.rank)
  reducesTo_S32768x256_S_d0_1 : S32768x256.ReducesTo [0, 1] S_
  bcast_S_S32768x64 : S_.BroadcastsInDim S32768x64 (![] : Fin 0 → Fin S32768x64.rank)
  reducesTo_S32768x64_S_d0_1 : S32768x64.ReducesTo [0, 1] S_
  bcast_S_S64x256 : S_.BroadcastsInDim S64x256 (![] : Fin 0 → Fin S64x256.rank)
  reducesTo_S64x256_S_d0_1 : S64x256.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part5 {F : FTy → Type} [FloatOps F] (main_arg15 : FVec F S1 .f32) (main_arg16 : FVec F S_ .f32) (main_v76 : IVec S_ 1) (main_v80 : IVec S_ 1) : IVec S_ 1 :=
  let main_v81 : IVec S_ 1 := andi main_v76 main_v80
  let main_v82 : FVec F S1 .f32 := Host.absf main_arg15
  let main_cst_37 : FVec F S_ .f32 := constant S_ .f32 0x7F800000#32
  let main_v83 : FVec F S1 .f32 := broadcastInDim S1 ![] bcast_S_S1 main_cst_37
  let main_v84 : IVec S1 1 := cmpf .olt main_v82 main_v83
  let main_c_38 : IVec S_ 1 := constantI S_ 1 1#1
  let main_v85 : IVec S_ 1 := (fun x v => Host.reduce IntOp.andi x v reducesTo_S1_S_d0 h_S_) main_v84 main_c_38
  let main_v86 : IVec S_ 1 := andi main_v81 main_v85
  let main_v87 : FVec F S_ .f32 := Host.absf main_arg16
  let main_cst_39 : FVec F S_ .f32 := constant S_ .f32 0x7F800000#32
  let main_v88 : IVec S_ 1 := cmpf .olt main_v87 main_cst_39
  let main_c_40 : IVec S_ 1 := constantI S_ 1 1#1
  let main_v89 : IVec S_ 1 := (fun x v => Host.reduce IntOp.andi x v reducesTo_S_S_d h_S_) main_v88 main_c_40
  let main_v90 : IVec S_ 1 := andi main_v86 main_v89
  main_v90

def fn_part4 {F : FTy → Type} [FloatOps F] (main_arg8 : FVec F S64x64 .f32) (main_arg12 : FVec F S64x128 .f32) (main_arg14 : FVec F S1x64 .f32) (main_arg15 : FVec F S1 .f32) (main_arg16 : FVec F S_ .f32) (main_v61 : IVec S_ 1) (main_v62 : FVec F S64x256 .f32) (main_v63 : FVec F S64x256 .f32) : IVec S_ 1 :=
  let main_v64 : IVec S64x256 1 := cmpf .olt main_v62 main_v63
  let main_c_30 : IVec S_ 1 := constantI S_ 1 1#1
  let main_v65 : IVec S_ 1 := (fun x v => Host.reduce IntOp.andi x v reducesTo_S64x256_S_d0_1 h_S_) main_v64 main_c_30
  let main_v66 : IVec S_ 1 := andi main_v61 main_v65
  let main_v67 : FVec F S64x64 .f32 := Host.absf main_arg8
  let main_cst_31 : FVec F S_ .f32 := constant S_ .f32 0x7F800000#32
  let main_v68 : FVec F S64x64 .f32 := broadcastInDim S64x64 ![] bcast_S_S64x64 main_cst_31
  let main_v69 : IVec S64x64 1 := cmpf .olt main_v67 main_v68
  let main_c_32 : IVec S_ 1 := constantI S_ 1 1#1
  let main_v70 : IVec S_ 1 := (fun x v => Host.reduce IntOp.andi x v reducesTo_S64x64_S_d0_1 h_S_) main_v69 main_c_32
  let main_v71 : IVec S_ 1 := andi main_v66 main_v70
  let main_v72 : FVec F S64x128 .f32 := Host.absf main_arg12
  let main_cst_33 : FVec F S_ .f32 := constant S_ .f32 0x7F800000#32
  let main_v73 : FVec F S64x128 .f32 := broadcastInDim S64x128 ![] bcast_S_S64x128 main_cst_33
  let main_v74 : IVec S64x128 1 := cmpf .olt main_v72 main_v73
  let main_c_34 : IVec S_ 1 := constantI S_ 1 1#1
  let main_v75 : IVec S_ 1 := (fun x v => Host.reduce IntOp.andi x v reducesTo_S64x128_S_d0_1 h_S_) main_v74 main_c_34
  let main_v76 : IVec S_ 1 := andi main_v71 main_v75
  let main_v77 : FVec F S1x64 .f32 := Host.absf main_arg14
  let main_cst_35 : FVec F S_ .f32 := constant S_ .f32 0x7F800000#32
  let main_v78 : FVec F S1x64 .f32 := broadcastInDim S1x64 ![] bcast_S_S1x64 main_cst_35
  let main_v79 : IVec S1x64 1 := cmpf .olt main_v77 main_v78
  let main_c_36 : IVec S_ 1 := constantI S_ 1 1#1
  let main_v80 : IVec S_ 1 := (fun x v => Host.reduce IntOp.andi x v reducesTo_S1x64_S_d0_1 h_S_) main_v79 main_c_36
  fn_part5 (F := F) main_arg15 main_arg16 main_v76 main_v80

def fn_part3 {F : FTy → Type} [FloatOps F] (main_arg0 : FVec F S32768x256 .f32) (main_arg1 : FVec F S32768x64 .f32) (main_arg4 : FVec F S64x256 .f32) (main_arg8 : FVec F S64x64 .f32) (main_arg12 : FVec F S64x128 .f32) (main_arg14 : FVec F S1x64 .f32) (main_arg15 : FVec F S1 .f32) (main_arg16 : FVec F S_ .f32) (main_arg22 : FVec F S64 .f32) (main_v43 : IVec S_ 1) (main_v46 : IVec S_ 1) : IVec S_ 1 :=
  let main_v47 : IVec S_ 1 := andi main_v43 main_v46
  let main_cst_23 : FVec F S_ .f32 := constant S_ .f32 0x00000000#32
  let main_v48 : FVec F S64 .f32 := broadcastInDim S64 ![] bcast_S_S64 main_cst_23
  let main_v49 : IVec S64 1 := cmpf .oeq main_arg22 main_v48
  let main_c_24 : IVec S_ 1 := constantI S_ 1 1#1
  let main_v50 : IVec S_ 1 := (fun x v => Host.reduce IntOp.andi x v reducesTo_S64_S_d0 h_S_) main_v49 main_c_24
  let main_v51 : IVec S_ 1 := andi main_v47 main_v50
  let main_v52 : FVec F S32768x256 .f32 := Host.absf main_arg0
  let main_cst_25 : FVec F S_ .f32 := constant S_ .f32 0x7F800000#32
  let main_v53 : FVec F S32768x256 .f32 := broadcastInDim S32768x256 ![] bcast_S_S32768x256 main_cst_25
  let main_v54 : IVec S32768x256 1 := cmpf .olt main_v52 main_v53
  let main_c_26 : IVec S_ 1 := constantI S_ 1 1#1
  let main_v55 : IVec S_ 1 := (fun x v => Host.reduce IntOp.andi x v reducesTo_S32768x256_S_d0_1 h_S_) main_v54 main_c_26
  let main_v56 : IVec S_ 1 := andi main_v51 main_v55
  let main_v57 : FVec F S32768x64 .f32 := Host.absf main_arg1
  let main_cst_27 : FVec F S_ .f32 := constant S_ .f32 0x7F800000#32
  let main_v58 : FVec F S32768x64 .f32 := broadcastInDim S32768x64 ![] bcast_S_S32768x64 main_cst_27
  let main_v59 : IVec S32768x64 1 := cmpf .olt main_v57 main_v58
  let main_c_28 : IVec S_ 1 := constantI S_ 1 1#1
  let main_v60 : IVec S_ 1 := (fun x v => Host.reduce IntOp.andi x v reducesTo_S32768x64_S_d0_1 h_S_) main_v59 main_c_28
  let main_v61 : IVec S_ 1 := andi main_v56 main_v60
  let main_v62 : FVec F S64x256 .f32 := Host.absf main_arg4
  let main_cst_29 : FVec F S_ .f32 := constant S_ .f32 0x7F800000#32
  let main_v63 : FVec F S64x256 .f32 := broadcastInDim S64x256 ![] bcast_S_S64x256 main_cst_29
  fn_part4 (F := F) main_arg8 main_arg12 main_arg14 main_arg15 main_arg16 main_v61 main_v62 main_v63

def fn_part2 {F : FTy → Type} [FloatOps F] (main_arg0 : FVec F S32768x256 .f32) (main_arg1 : FVec F S32768x64 .f32) (main_arg4 : FVec F S64x256 .f32) (main_arg8 : FVec F S64x64 .f32) (main_arg11 : FVec F S128 .f32) (main_arg12 : FVec F S64x128 .f32) (main_arg13 : FVec F S64 .f32) (main_arg14 : FVec F S1x64 .f32) (main_arg15 : FVec F S1 .f32) (main_arg16 : FVec F S_ .f32) (main_arg18 : FVec F S64 .f32) (main_arg20 : FVec F S64 .f32) (main_arg22 : FVec F S64 .f32) (main_v27 : IVec S_ 1) (main_v30 : IVec S_ 1) : IVec S_ 1 :=
  let main_v31 : IVec S_ 1 := andi main_v27 main_v30
  let main_cst_15 : FVec F S_ .f32 := constant S_ .f32 0x00000000#32
  let main_v32 : FVec F S128 .f32 := broadcastInDim S128 ![] bcast_S_S128 main_cst_15
  let main_v33 : IVec S128 1 := cmpf .oeq main_arg11 main_v32
  let main_c_16 : IVec S_ 1 := constantI S_ 1 1#1
  let main_v34 : IVec S_ 1 := (fun x v => Host.reduce IntOp.andi x v reducesTo_S128_S_d0 h_S_) main_v33 main_c_16
  let main_v35 : IVec S_ 1 := andi main_v31 main_v34
  let main_cst_17 : FVec F S_ .f32 := constant S_ .f32 0x00000000#32
  let main_v36 : FVec F S64 .f32 := broadcastInDim S64 ![] bcast_S_S64 main_cst_17
  let main_v37 : IVec S64 1 := cmpf .oeq main_arg13 main_v36
  let main_c_18 : IVec S_ 1 := constantI S_ 1 1#1
  let main_v38 : IVec S_ 1 := (fun x v => Host.reduce IntOp.andi x v reducesTo_S64_S_d0 h_S_) main_v37 main_c_18
  let main_v39 : IVec S_ 1 := andi main_v35 main_v38
  let main_cst_19 : FVec F S_ .f32 := constant S_ .f32 0x00000000#32
  let main_v40 : FVec F S64 .f32 := broadcastInDim S64 ![] bcast_S_S64 main_cst_19
  let main_v41 : IVec S64 1 := cmpf .oeq main_arg18 main_v40
  let main_c_20 : IVec S_ 1 := constantI S_ 1 1#1
  let main_v42 : IVec S_ 1 := (fun x v => Host.reduce IntOp.andi x v reducesTo_S64_S_d0 h_S_) main_v41 main_c_20
  let main_v43 : IVec S_ 1 := andi main_v39 main_v42
  let main_cst_21 : FVec F S_ .f32 := constant S_ .f32 0x00000000#32
  let main_v44 : FVec F S64 .f32 := broadcastInDim S64 ![] bcast_S_S64 main_cst_21
  let main_v45 : IVec S64 1 := cmpf .oeq main_arg20 main_v44
  let main_c_22 : IVec S_ 1 := constantI S_ 1 1#1
  let main_v46 : IVec S_ 1 := (fun x v => Host.reduce IntOp.andi x v reducesTo_S64_S_d0 h_S_) main_v45 main_c_22
  fn_part3 (F := F) main_arg0 main_arg1 main_arg4 main_arg8 main_arg12 main_arg14 main_arg15 main_arg16 main_arg22 main_v43 main_v46

def fn_part1 {F : FTy → Type} [FloatOps F] (main_arg0 : FVec F S32768x256 .f32) (main_arg1 : FVec F S32768x64 .f32) (main_arg3 : FVec F S256 .f32) (main_arg4 : FVec F S64x256 .f32) (main_arg5 : FVec F S64 .f32) (main_arg7 : FVec F S64 .f32) (main_arg8 : FVec F S64x64 .f32) (main_arg9 : FVec F S64 .f32) (main_arg11 : FVec F S128 .f32) (main_arg12 : FVec F S64x128 .f32) (main_arg13 : FVec F S64 .f32) (main_arg14 : FVec F S1x64 .f32) (main_arg15 : FVec F S1 .f32) (main_arg16 : FVec F S_ .f32) (main_arg18 : FVec F S64 .f32) (main_arg20 : FVec F S64 .f32) (main_arg22 : FVec F S64 .f32) (main_v11 : IVec S_ 1) (main_v14 : IVec S_ 1) : IVec S_ 1 :=
  let main_v15 : IVec S_ 1 := andi main_v11 main_v14
  let main_cst_7 : FVec F S_ .f32 := constant S_ .f32 0x00000000#32
  let main_v16 : FVec F S256 .f32 := broadcastInDim S256 ![] bcast_S_S256 main_cst_7
  let main_v17 : IVec S256 1 := cmpf .oeq main_arg3 main_v16
  let main_c_8 : IVec S_ 1 := constantI S_ 1 1#1
  let main_v18 : IVec S_ 1 := (fun x v => Host.reduce IntOp.andi x v reducesTo_S256_S_d0 h_S_) main_v17 main_c_8
  let main_v19 : IVec S_ 1 := andi main_v15 main_v18
  let main_cst_9 : FVec F S_ .f32 := constant S_ .f32 0x00000000#32
  let main_v20 : FVec F S64 .f32 := broadcastInDim S64 ![] bcast_S_S64 main_cst_9
  let main_v21 : IVec S64 1 := cmpf .oeq main_arg5 main_v20
  let main_c_10 : IVec S_ 1 := constantI S_ 1 1#1
  let main_v22 : IVec S_ 1 := (fun x v => Host.reduce IntOp.andi x v reducesTo_S64_S_d0 h_S_) main_v21 main_c_10
  let main_v23 : IVec S_ 1 := andi main_v19 main_v22
  let main_cst_11 : FVec F S_ .f32 := constant S_ .f32 0x00000000#32
  let main_v24 : FVec F S64 .f32 := broadcastInDim S64 ![] bcast_S_S64 main_cst_11
  let main_v25 : IVec S64 1 := cmpf .oeq main_arg7 main_v24
  let main_c_12 : IVec S_ 1 := constantI S_ 1 1#1
  let main_v26 : IVec S_ 1 := (fun x v => Host.reduce IntOp.andi x v reducesTo_S64_S_d0 h_S_) main_v25 main_c_12
  let main_v27 : IVec S_ 1 := andi main_v23 main_v26
  let main_cst_13 : FVec F S_ .f32 := constant S_ .f32 0x00000000#32
  let main_v28 : FVec F S64 .f32 := broadcastInDim S64 ![] bcast_S_S64 main_cst_13
  let main_v29 : IVec S64 1 := cmpf .oeq main_arg9 main_v28
  let main_c_14 : IVec S_ 1 := constantI S_ 1 1#1
  let main_v30 : IVec S_ 1 := (fun x v => Host.reduce IntOp.andi x v reducesTo_S64_S_d0 h_S_) main_v29 main_c_14
  fn_part2 (F := F) main_arg0 main_arg1 main_arg4 main_arg8 main_arg11 main_arg12 main_arg13 main_arg14 main_arg15 main_arg16 main_arg18 main_arg20 main_arg22 main_v27 main_v30

def fn {F : FTy → Type} [FloatOps F] (main_arg0 : FVec F S32768x256 .f32) (main_arg1 : FVec F S32768x64 .f32) (main_arg2 : FVec F S256 .f32) (main_arg3 : FVec F S256 .f32) (main_arg4 : FVec F S64x256 .f32) (main_arg5 : FVec F S64 .f32) (main_arg6 : FVec F S64 .f32) (main_arg7 : FVec F S64 .f32) (main_arg8 : FVec F S64x64 .f32) (main_arg9 : FVec F S64 .f32) (main_arg10 : FVec F S128 .f32) (main_arg11 : FVec F S128 .f32) (main_arg12 : FVec F S64x128 .f32) (main_arg13 : FVec F S64 .f32) (main_arg14 : FVec F S1x64 .f32) (main_arg15 : FVec F S1 .f32) (main_arg16 : FVec F S_ .f32) (main_arg17 : FVec F S64 .f32) (main_arg18 : FVec F S64 .f32) (main_arg19 : FVec F S64x64 .f32) (main_arg20 : FVec F S64 .f32) (main_arg21 : FVec F S64x64 .f32) (main_arg22 : FVec F S64 .f32) (main_arg23 : FVec F S_ .f32) : IVec S_ 1 :=
  let main_cst : FVec F S_ .f32 := constant S_ .f32 0x3F800000#32
  let main_v0 : FVec F S256 .f32 := broadcastInDim S256 ![] bcast_S_S256 main_cst
  let main_v1 : IVec S256 1 := cmpf .oeq main_arg2 main_v0
  let main_c : IVec S_ 1 := constantI S_ 1 1#1
  let main_v2 : IVec S_ 1 := (fun x v => Host.reduce IntOp.andi x v reducesTo_S256_S_d0 h_S_) main_v1 main_c
  let main_c_0 : IVec S_ 1 := constantI S_ 1 1#1
  let main_v3 : IVec S_ 1 := andi main_c_0 main_v2
  let main_cst_1 : FVec F S_ .f32 := constant S_ .f32 0x3F800000#32
  let main_v4 : FVec F S64 .f32 := broadcastInDim S64 ![] bcast_S_S64 main_cst_1
  let main_v5 : IVec S64 1 := cmpf .oeq main_arg6 main_v4
  let main_c_2 : IVec S_ 1 := constantI S_ 1 1#1
  let main_v6 : IVec S_ 1 := (fun x v => Host.reduce IntOp.andi x v reducesTo_S64_S_d0 h_S_) main_v5 main_c_2
  let main_v7 : IVec S_ 1 := andi main_v3 main_v6
  let main_cst_3 : FVec F S_ .f32 := constant S_ .f32 0x3F800000#32
  let main_v8 : FVec F S128 .f32 := broadcastInDim S128 ![] bcast_S_S128 main_cst_3
  let main_v9 : IVec S128 1 := cmpf .oeq main_arg10 main_v8
  let main_c_4 : IVec S_ 1 := constantI S_ 1 1#1
  let main_v10 : IVec S_ 1 := (fun x v => Host.reduce IntOp.andi x v reducesTo_S128_S_d0 h_S_) main_v9 main_c_4
  let main_v11 : IVec S_ 1 := andi main_v7 main_v10
  let main_cst_5 : FVec F S_ .f32 := constant S_ .f32 0x3F800000#32
  let main_v12 : FVec F S64 .f32 := broadcastInDim S64 ![] bcast_S_S64 main_cst_5
  let main_v13 : IVec S64 1 := cmpf .oeq main_arg17 main_v12
  let main_c_6 : IVec S_ 1 := constantI S_ 1 1#1
  let main_v14 : IVec S_ 1 := (fun x v => Host.reduce IntOp.andi x v reducesTo_S64_S_d0 h_S_) main_v13 main_c_6
  fn_part1 (F := F) main_arg0 main_arg1 main_arg3 main_arg4 main_arg5 main_arg7 main_arg8 main_arg9 main_arg11 main_arg12 main_arg13 main_arg14 main_arg15 main_arg16 main_arg18 main_arg20 main_arg22 main_v11 main_v14
-- ==== Kernel.lean ====
abbrev S32768x256 : Shape := ⟨2, ![32768, 256]⟩
abbrev S32768x64 : Shape := ⟨2, ![32768, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S_ : Shape := ⟨0, ![]⟩
abbrev S128x64 : Shape := ⟨2, ![128, 64]⟩
abbrev S256x64 : Shape := ⟨2, ![256, 64]⟩
abbrev S1x1 : Shape := ⟨2, ![1, 1]⟩
abbrev S8192x256 : Shape := ⟨2, ![8192, 256]⟩
abbrev S8192x64 : Shape := ⟨2, ![8192, 64]⟩
abbrev S3x64 : Shape := ⟨2, ![3, 64]⟩
abbrev S2 : Shape := ⟨1, ![2]⟩
abbrev S8192 : Shape := ⟨1, ![8192]⟩
abbrev S8192x1 : Shape := ⟨2, ![8192, 1]⟩
abbrev S1x8192 : Shape := ⟨2, ![1, 8192]⟩

abbrev nBuf : Space → Nat
  | .hbm => 36
  | .vmem => 15
  | .smem => 1
  | _ => 0

abbrev bufTy : (tb : Table) → Fin (tcTables nBuf tb) → BufTy
  | .hbm, ⟨0, _⟩ => ⟨S32768x256, .f32⟩
  | .hbm, ⟨1, _⟩ => ⟨S32768x64, .f32⟩
  | .hbm, ⟨2, _⟩ => ⟨S256, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S_, .f32⟩
  | .hbm, ⟨24, _⟩ => ⟨S128x64, .f32⟩
  | .hbm, ⟨25, _⟩ => ⟨S256x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64, .f32⟩
  | .hbm, ⟨30, _⟩ => ⟨S1x64, .f32⟩
  | .hbm, ⟨31, _⟩ => ⟨S1x1, .f32⟩
  | .hbm, ⟨32, _⟩ => ⟨S64x64, .f32⟩
  | .hbm, ⟨33, _⟩ => ⟨S64x64, .f32⟩
  | .hbm, ⟨34, _⟩ => ⟨S1x1, .f32⟩
  | .hbm, ⟨35, _⟩ => ⟨S1x64, .f32⟩
  | .local _ .vmem, ⟨0, _⟩ => ⟨S8192x256, .f32⟩
  | .local _ .vmem, ⟨1, _⟩ => ⟨S8192x256, .f32⟩
  | .local _ .vmem, ⟨2, _⟩ => ⟨S8192x64, .f32⟩
  | .local _ .vmem, ⟨3, _⟩ => ⟨S8192x64, .f32⟩
  | .local _ .vmem, ⟨4, _⟩ => ⟨S256x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x1, .f32⟩
  | .local _ .vmem, ⟨10, _⟩ => ⟨S64x64, .f32⟩
  | .local _ .vmem, ⟨11, _⟩ => ⟨S64x64, .f32⟩
  | .local _ .vmem, ⟨12, _⟩ => ⟨S1x1, .f32⟩
  | .local _ .vmem, ⟨13, _⟩ => ⟨S1x64, .f32⟩
  | .local _ .vmem, ⟨14, _⟩ => ⟨S3x64, .f32⟩
  | .local _ .smem, ⟨0, _⟩ => ⟨S2, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v142 : BitVec 1 := Scalar.cmpi .eq arg0 c3_i32
  let v143 : BitVec 32 := Scalar.extui v142
  let c0_i32_55 : BitVec 32 := 0#32
  let v144 : BitVec 1 := Scalar.cmpi .ne v143 c0_i32_55
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S32768x256 : Shape := ⟨2, ![32768, 256]⟩
abbrev S32768x64 : Shape := ⟨2, ![32768, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S128 : Shape := ⟨1, ![128]⟩
abbrev S64x128 : Shape := ⟨2, ![64, 128]⟩
abbrev S1x64 : Shape := ⟨2, ![1, 64]⟩
abbrev S1 : Shape := ⟨1, ![1]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S256x64 : Shape := ⟨2, ![256, 64]⟩
abbrev S32768x128 : Shape := ⟨2, ![32768, 128]⟩
abbrev S1x128 : Shape := ⟨2, ![1, 128]⟩
abbrev S128x64 : Shape := ⟨2, ![128, 64]⟩
abbrev S64x1 : Shape := ⟨2, ![64, 1]⟩
abbrev S1x1 : Shape := ⟨2, ![1, 1]⟩

abbrev nBuf : Space → Nat
  | .hbm => 282
  | .vmem => 0
  | .smem => 0
  | _ => 0

abbrev hbmTy0_0 (i : Nat) : BufTy := match i % 128 with
  | 0 => ⟨S32768x256, .f32⟩
  | 1 => ⟨S32768x64, .f32⟩
  | 2 => ⟨S256, .f32⟩
  | 3 => ⟨S256, .f32⟩
  | 4 => ⟨S64x256, .f32⟩
  | 5 => ⟨S64, .f32⟩
  | 6 => ⟨S64, .f32⟩
  | 7 => ⟨S64, .f32⟩
  | 8 => ⟨S64x64, .f32⟩
  | 9 => ⟨S64, .f32⟩
  | 10 => ⟨S128, .f32⟩
  | 11 => ⟨S128, .f32⟩
  | 12 => ⟨S64x128, .f32⟩
  | 13 => ⟨S64, .f32⟩
  | 14 => ⟨S1x64, .f32⟩
  | 15 => ⟨S1, .f32⟩
  | 16 => ⟨S_, .f32⟩
  | 17 => ⟨S64, .f32⟩
  | 18 => ⟨S64, .f32⟩
  | 19 => ⟨S64x64, .f32⟩
  | 20 => ⟨S64, .f32⟩
  | 21 => ⟨S64x64, .f32⟩
  | 22 => ⟨S64, .f32⟩
  | 23 => ⟨S_, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S_, .i32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S32768x256, .f32⟩
  | 38 => ⟨S32768x256, .f32⟩
  | 39 => ⟨S32768x256, .f32⟩
  | 40 => ⟨S_, .f32⟩
  | 41 => ⟨S_, .f32⟩
  | 42 => ⟨S_, .f32⟩
  | 43 => ⟨S_, .f32⟩
  | 44 => ⟨S32768, .f32⟩
  | 45 => ⟨S32768x1, .f32⟩
  | 46 => ⟨S32768x1, .f32⟩
  | 47 => ⟨S32768x1, .f32⟩
  | 48 => ⟨S_, .f32⟩
  | 49 => ⟨S_, .i1⟩
  | 50 => ⟨S_, .f32⟩
  | 51 => ⟨S_, .f32⟩
  | 52 => ⟨S32768x1, .f32⟩
  | 53 => ⟨S32768x1, .f32⟩
  | 54 => ⟨S32768x256, .f32⟩
  | 55 => ⟨S32768x256, .f32⟩
  | 56 => ⟨S_, .f32⟩
  | 57 => ⟨S32768x1, .f32⟩
  | 58 => ⟨S32768x1, .f32⟩
  | 59 => ⟨S32768x1, .f32⟩
  | 60 => ⟨S32768x256, .f32⟩
  | 61 => ⟨S32768x256, .f32⟩
  | 62 => ⟨S1x256, .f32⟩
  | 63 => ⟨S32768x256, .f32⟩
  | 64 => ⟨S32768x256, .f32⟩
  | 65 => ⟨S1x256, .f32⟩
  | 66 => ⟨S32768x256, .f32⟩
  | 67 => ⟨S32768x256, .f32⟩
  | 68 => ⟨S256x64, .f32⟩
  | 69 => ⟨S32768x64, .f32⟩
  | 70 => ⟨S1x64, .f32⟩
  | 71 => ⟨S32768x64, .f32⟩
  | 72 => ⟨S32768x64, .f32⟩
  | 73 => ⟨S_, .f32⟩
  | 74 => ⟨S32768, .f32⟩
  | 75 => ⟨S_, .f32⟩
  | 76 => ⟨S32768, .f32⟩
  | 77 => ⟨S32768, .f32⟩
  | 78 => ⟨S32768x1, .f32⟩
  | 79 => ⟨S32768x64, .f32⟩
  | 80 => ⟨S32768x64, .f32⟩
  | 81 => ⟨S32768x64, .f32⟩
  | 82 => ⟨S_, .f32⟩
  | 83 => ⟨S32768, .f32⟩
  | 84 => ⟨S32768x1, .f32⟩
  | 85 => ⟨S32768x64, .f32⟩
  | 86 => ⟨S32768x64, .f32⟩
  | 87 => ⟨S_, .f32⟩
  | 88 => ⟨S32768, .f32⟩
  | 89 => ⟨S32768x1, .f32⟩
  | 90 => ⟨S_, .f32⟩
  | 91 => ⟨S32768x1, .f32⟩
  | 92 => ⟨S32768x1, .f32⟩
  | 93 => ⟨S_, .i32⟩
  | 94 => ⟨S_, .f32⟩
  | 95 => ⟨S32768, .f32⟩
  | 96 => ⟨S32768x1, .f32⟩
  | 97 => ⟨S_, .f32⟩
  | 98 => ⟨S32768x1, .f32⟩
  | 99 => ⟨S32768x1, .f32⟩
  | 100 => ⟨S32768x64, .f32⟩
  | 101 => ⟨S32768x64, .f32⟩
  | 102 => ⟨S32768x64, .f32⟩
  | 103 => ⟨S_, .f32⟩
  | 104 => ⟨S_, .f32⟩
  | 105 => ⟨S_, .f32⟩
  | 106 => ⟨S_, .f32⟩
  | 107 => ⟨S32768, .f32⟩
  | 108 => ⟨S32768x1, .f32⟩
  | 109 => ⟨S32768x1, .f32⟩
  | 110 => ⟨S32768x1, .f32⟩
  | 111 => ⟨S_, .f32⟩
  | 112 => ⟨S_, .i1⟩
  | 113 => ⟨S_, .f32⟩
  | 114 => ⟨S_, .f32⟩
  | 115 => ⟨S32768x1, .f32⟩
  | 116 => ⟨S32768x1, .f32⟩
  | 117 => ⟨S32768x64, .f32⟩
  | 118 => ⟨S32768x64, .f32⟩
  | 119 => ⟨S_, .f32⟩
  | 120 => ⟨S32768x1, .f32⟩
  | 121 => ⟨S32768x1, .f32⟩
  | 122 => ⟨S32768x1, .f32⟩
  | 123 => ⟨S32768x64, .f32⟩
  | 124 => ⟨S32768x64, .f32⟩
  | 125 => ⟨S1x64, .f32⟩
  | 126 => ⟨S32768x64, .f32⟩
  | 127 => ⟨S32768x64, .f32⟩
  | _ => ⟨S32768x256, .f32⟩

abbrev hbmTy0_1 (i : Nat) : BufTy := match i % 128 with
  | 0 => ⟨S1x64, .f32⟩
  | 1 => ⟨S32768x64, .f32⟩
  | 2 => ⟨S32768x64, .f32⟩
  | 3 => ⟨S64x64, .f32⟩
  | 4 => ⟨S32768x64, .f32⟩
  | 5 => ⟨S1x64, .f32⟩
  | 6 => ⟨S32768x64, .f32⟩
  | 7 => ⟨S32768x64, .f32⟩
  | 8 => ⟨S32768x128, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .i32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S32768x128, .f32⟩
  | 23 => ⟨S32768x128, .f32⟩
  | 24 => ⟨S32768x128, .f32⟩
  | 25 => ⟨S_, .f32⟩
  | 26 => ⟨S_, .f32⟩
  | 27 => ⟨S_, .f32⟩
  | 28 => ⟨S_, .f32⟩
  | 29 => ⟨S32768, .f32⟩
  | 30 => ⟨S32768x1, .f32⟩
  | 31 => ⟨S32768x1, .f32⟩
  | 32 => ⟨S32768x1, .f32⟩
  | 33 => ⟨S_, .f32⟩
  | 34 => ⟨S_, .i1⟩
  | 35 => ⟨S_, .f32⟩
  | 36 => ⟨S_, .f32⟩
  | 37 => ⟨S32768x1, .f32⟩
  | 38 => ⟨S32768x1, .f32⟩
  | 39 => ⟨S32768x128, .f32⟩
  | 40 => ⟨S32768x128, .f32⟩
  | 41 => ⟨S_, .f32⟩
  | 42 => ⟨S32768x1, .f32⟩
  | 43 => ⟨S32768x1, .f32⟩
  | 44 => ⟨S32768x1, .f32⟩
  | 45 => ⟨S32768x128, .f32⟩
  | 46 => ⟨S32768x128, .f32⟩
  | 47 => ⟨S1x128, .f32⟩
  | 48 => ⟨S32768x128, .f32⟩
  | 49 => ⟨S32768x128, .f32⟩
  | 50 => ⟨S1x128, .f32⟩
  | 51 => ⟨S32768x128, .f32⟩
  | 52 => ⟨S32768x128, .f32⟩
  | 53 => ⟨S128x64, .f32⟩
  | 54 => ⟨S32768x64, .f32⟩
  | 55 => ⟨S1x64, .f32⟩
  | 56 => ⟨S32768x64, .f32⟩
  | 57 => ⟨S32768x64, .f32⟩
  | 58 => ⟨S_, .f32⟩
  | 59 => ⟨S32768x64, .f32⟩
  | 60 => ⟨S32768x64, .f32⟩
  | 61 => ⟨S64x1, .f32⟩
  | 62 => ⟨S32768x1, .f32⟩
  | 63 => ⟨S1x1, .f32⟩
  | 64 => ⟨S32768x1, .f32⟩
  | 65 => ⟨S32768x1, .f32⟩
  | 66 => ⟨S32768, .f32⟩
  | 67 => ⟨S_, .f32⟩
  | 68 => ⟨S32768, .f32⟩
  | 69 => ⟨S32768, .f32⟩
  | 70 => ⟨S_, .f32⟩
  | 71 => ⟨S_, .f32⟩
  | 72 => ⟨S_, .f32⟩
  | 73 => ⟨S_, .f32⟩
  | 74 => ⟨S1, .f32⟩
  | 75 => ⟨S32768, .f32⟩
  | 76 => ⟨S32768, .f32⟩
  | 77 => ⟨S32768, .f32⟩
  | 78 => ⟨S_, .f32⟩
  | 79 => ⟨S_, .f32⟩
  | 80 => ⟨S1, .f32⟩
  | 81 => ⟨S32768, .f32⟩
  | 82 => ⟨S32768, .f32⟩
  | 83 => ⟨S32768x1, .f32⟩
  | 84 => ⟨S32768x64, .f32⟩
  | 85 => ⟨S32768x64, .f32⟩
  | 86 => ⟨S_, .f32⟩
  | 87 => ⟨S64, .f32⟩
  | 88 => ⟨S_, .f32⟩
  | 89 => ⟨S64, .f32⟩
  | 90 => ⟨S_, .f32⟩
  | 91 => ⟨S64, .f32⟩
  | 92 => ⟨S64, .f32⟩
  | 93 => ⟨S64, .f32⟩
  | 94 => ⟨S64, .f32⟩
  | 95 => ⟨S64, .f32⟩
  | 96 => ⟨S_, .f32⟩
  | 97 => ⟨S_, .f32⟩
  | 98 => ⟨S1, .f32⟩
  | 99 => ⟨S_, .f32⟩
  | 100 => ⟨S1, .f32⟩
  | 101 => ⟨S1, .f32⟩
  | 102 => ⟨S_, .i32⟩
  | 103 => ⟨S_, .f32⟩
  | 104 => ⟨S_, .f32⟩
  | 105 => ⟨S1, .f32⟩
  | 106 => ⟨S_, .f32⟩
  | 107 => ⟨S1, .f32⟩
  | 108 => ⟨S1, .f32⟩
  | 109 => ⟨S64, .f32⟩
  | 110 => ⟨S64, .f32⟩
  | 111 => ⟨S64, .f32⟩
  | 112 => ⟨S_, .f32⟩
  | 113 => ⟨S_, .f32⟩
  | 114 => ⟨S_, .f32⟩
  | 115 => ⟨S_, .f32⟩
  | 116 => ⟨S_, .f32⟩
  | 117 => ⟨S1, .f32⟩
  | 118 => ⟨S1, .f32⟩
  | 119 => ⟨S1, .f32⟩
  | 120 => ⟨S_, .f32⟩
  | 121 => ⟨S_, .i1⟩
  | 122 => ⟨S_, .f32⟩
  | 123 => ⟨S_, .f32⟩
  | 124 => ⟨S1, .f32⟩
  | 125 => ⟨S1, .f32⟩
  | 126 => ⟨S64, .f32⟩
  | 127 => ⟨S64, .f32⟩
  | _ => ⟨S32768x256, .f32⟩

abbrev hbmTy0_2 (i : Nat) : BufTy := match i % 128 with
  | 0 => ⟨S_, .f32⟩
  | 1 => ⟨S1, .f32⟩
  | 2 => ⟨S1, .f32⟩
  | 3 => ⟨S1, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S_, .f32⟩
  | 12 => ⟨S64, .f32⟩
  | 13 => ⟨S64, .f32⟩
  | 14 => ⟨S64x64, .f32⟩
  | 15 => ⟨S64, .f32⟩
  | 16 => ⟨S64, .f32⟩
  | 17 => ⟨S_, .f32⟩
  | 18 => ⟨S64, .f32⟩
  | 19 => ⟨S_, .f32⟩
  | 20 => ⟨S64, .f32⟩
  | 21 => ⟨S64, .f32⟩
  | 22 => ⟨S64, .f32⟩
  | 23 => ⟨S64, .f32⟩
  | 24 => ⟨S64, .f32⟩
  | 25 => ⟨S1x64, .f32⟩
  | _ => ⟨S32768x256, .f32⟩

abbrev hbmTy (i : Nat) : BufTy := match i / 128 with
  | 0 => hbmTy0_0 i
  | 1 => hbmTy0_1 i
  | 2 => hbmTy0_2 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_3 : Ref sig .tc := ⟨.hbm, 48, rfl⟩
abbrev main_call0_v13 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst_1 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_2 : Ref sig .tc := ⟨.hbm, 73, rfl⟩
abbrev main_v23 : Ref sig .tc := ⟨.hbm, 74, rfl⟩
abbrev main_cst_3 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_c_7 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_v12 : Ref sig .tc := ⟨.hbm, 110, rfl⟩
abbrev main_call1_cst_3 : Ref sig .tc := ⟨.hbm, 111, rfl⟩
abbrev main_call1_v13 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_cst_8 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_9 : Ref sig .tc := ⟨.hbm, 137, rfl⟩
abbrev main_v58 : Ref sig .tc := ⟨.hbm, 138, rfl⟩
abbrev main_v59 : Ref sig .tc := ⟨.hbm, 139, rfl⟩
abbrev main_cst_10 : Ref sig .tc := ⟨.hbm, 140, rfl⟩
abbrev main_v60 : Ref sig .tc := ⟨.hbm, 141, rfl⟩
abbrev main_v61 : Ref sig .tc := ⟨.hbm, 142, rfl⟩
abbrev main_c_11 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_v12 : Ref sig .tc := ⟨.hbm, 160, rfl⟩
abbrev main_call2_cst_3 : Ref sig .tc := ⟨.hbm, 161, rfl⟩
abbrev main_call2_v13 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_cst_12 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_call3_cst : Ref sig .tc := ⟨.hbm, 186, rfl⟩
abbrev main_call3_v0 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_cst_13 : Ref sig .tc := ⟨.hbm, 195, rfl⟩
abbrev main_v88 : Ref sig .tc := ⟨.hbm, 196, rfl⟩
abbrev main_v89 : Ref sig .tc := ⟨.hbm, 197, rfl⟩
abbrev main_cst_14 : Ref sig .tc := ⟨.hbm, 198, rfl⟩
abbrev main_v90 : Ref sig .tc := ⟨.hbm, 199, rfl⟩
abbrev main_cst_15 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_cst_16 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_cst_17 : Ref sig .tc := ⟨.hbm, 214, rfl⟩
abbrev main_v103 : Ref sig .tc := ⟨.hbm, 215, rfl⟩
abbrev main_cst_18 : Ref sig .tc := ⟨.hbm, 216, rfl⟩
abbrev main_v104 : Ref sig .tc := ⟨.hbm, 217, rfl⟩
abbrev main_cst_19 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_cst_20 : Ref sig .tc := ⟨.hbm, 224, rfl⟩
abbrev main_v110 : Ref sig .tc := ⟨.hbm, 225, rfl⟩
abbrev main_v111 : Ref sig .tc := ⟨.hbm, 226, rfl⟩
abbrev main_cst_21 : Ref sig .tc := ⟨.hbm, 227, rfl⟩
abbrev main_v112 : Ref sig .tc := ⟨.hbm, 228, rfl⟩
abbrev main_v113 : Ref sig .tc := ⟨.hbm, 229, rfl⟩
abbrev main_c_22 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_cst_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_v6 : Ref sig .tc := ⟨.hbm, 239, rfl⟩
abbrev main_call4_v7 : Ref sig .tc := ⟨.hbm, 240, rfl⟩
abbrev main_call4_cst_1 : Ref sig .tc := ⟨.hbm, 241, rfl⟩
abbrev main_call4_v8 : Ref sig .tc := ⟨.hbm, 242, rfl⟩
abbrev main_call4_cst_2 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_v12 : Ref sig .tc := ⟨.hbm, 247, rfl⟩
abbrev main_call4_cst_3 : Ref sig .tc := ⟨.hbm, 248, rfl⟩
abbrev main_call4_v13 : Ref sig .tc := ⟨.hbm, 249, rfl⟩
abbrev main_call4_cst_4 : Ref sig .tc := ⟨.hbm, 250, rfl⟩
abbrev main_call4_call0_v0 : Ref sig .tc := ⟨.hbm, 251, rfl⟩
abbrev main_call4_call0_v1 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_cst_23 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_call5_cst : Ref sig .tc := ⟨.hbm, 267, rfl⟩
abbrev main_call5_v0 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_cst_24 : Ref sig .tc := ⟨.hbm, 273, rfl⟩
abbrev main_v131 : Ref sig .tc := ⟨.hbm, 274, rfl⟩
abbrev main_cst_25 : Ref sig .tc := ⟨.hbm, 275, rfl⟩
abbrev main_v132 : Ref sig .tc := ⟨.hbm, 276, rfl⟩
abbrev main_v133 : Ref sig .tc := ⟨.hbm, 277, rfl⟩
abbrev main_v134 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩

abbrev nD : Nat := 1
abbrev τ : Topo := Topo.v7x

variable {F : FTy → Type} [FloatOps F]
-- ==== Proof.Reals.lean ====
/-
  The arithmetic both programs share, over the real numbers: the constants they write, the normalization of a row,
  the softmax of a row, and the identities that turn the kernel's one-pass forms into the reference's two-pass forms.
-/
module

public import Idealize.ShloMosaic.Lib.Pointwise
public import Idealize.ShloMosaic.Lib.IdealHost

@[expose] public section

noncomputable section

namespace Cert.Flow

open Idealize.ShloMosaic

/-! ### The constants -/

/-- The word both programs write for `1e-5`, as a real number. -/
def eps : ℝ := 10995116 / 2 ^ 40

/-- The layer norms' small constant is positive. -/
theorem eps_pos : 0 < eps := by unfold eps; positivity

/-- The word of the small constant reads as its rational. -/
theorem ofBits_eps : Ideal.ofBits .f32 0x3727C5AC#32 = ((eps : ℝ) : EReal) := by
  simp [Ideal.ofBits, Ideal.ieee, eps]; norm_num; rw [← EReal.coe_mul, EReal.coe_eq_coe_iff]; norm_num

/-- The word of 1/256. -/
theorem ofBits_inv256 : Ideal.ofBits .f32 0x3B800000#32 = ((1 / 256 : ℝ) : EReal) := by
  simp [Ideal.ofBits, Ideal.ieee]; norm_num; rw [← EReal.coe_mul, EReal.coe_eq_coe_iff]; norm_num

/-- The word of 1/64. -/
theorem ofBits_inv64 : Ideal.ofBits .f32 0x3C800000#32 = ((1 / 64 : ℝ) : EReal) := by
  simp [Ideal.ofBits, Ideal.ieee]; norm_num; rw [← EReal.coe_mul, EReal.coe_eq_coe_iff]; norm_num

/-- The word of 1/128. -/
theorem ofBits_inv128 : Ideal.ofBits .f32 0x3C000000#32 = ((1 / 128 : ℝ) : EReal) := by
  simp [Ideal.ofBits, Ideal.ieee]; norm_num; rw [← EReal.coe_mul, EReal.coe_eq_coe_iff]; norm_num

/-- The word of 1/32768. -/
theorem ofBits_inv32768 : Ideal.ofBits .f32 0x38000000#32 = ((1 / 32768 : ℝ) : EReal) := by
  simp [Ideal.ofBits, Ideal.ieee]; norm_num; rw [← EReal.coe_mul, EReal.coe_eq_coe_iff]; norm_num

/-- The word of 256. -/
theorem ofBits_256 : Ideal.ofBits .f32 0x43800000#32 = ((256 : ℝ) : EReal) := by
  simp [Ideal.ofBits, Ideal.ieee]; norm_num; rw [← EReal.coe_mul, EReal.coe_eq_coe_iff]; norm_num

/-- The word of 64. -/
theorem ofBits_64 : Ideal.ofBits .f32 0x42800000#32 = ((64 : ℝ) : EReal) := by
  simp [Ideal.ofBits, Ideal.ieee]; norm_num; rw [← EReal.coe_mul, EReal.coe_eq_coe_iff]; norm_num

/-- The word of 128. -/
theorem ofBits_128 : Ideal.ofBits .f32 0x43000000#32 = ((128 : ℝ) : EReal) := by
  simp [Ideal.ofBits, Ideal.ieee]; norm_num; rw [← EReal.coe_mul, EReal.coe_eq_coe_iff]; norm_num

/-- The word of 32768. -/
theorem ofBits_32768 : Ideal.ofBits .f32 0x47000000#32 = ((32768 : ℝ) : EReal) := by
  simp [Ideal.ofBits, Ideal.ieee]; norm_num; rw [← EReal.coe_mul, EReal.coe_eq_coe_iff]; norm_num

/-- The word of minus infinity is the least extended real. -/
theorem ofBits_neg_inf : Ideal.ofBits .f32 0xFF800000#32 = (⊥ : EReal) := by
  simp [Ideal.ofBits, Ideal.ieee]

/-- The word of infinity is the greatest extended real. -/
theorem ofBits_pos_inf : Ideal.ofBits .f32 0x7F800000#32 = (⊤ : EReal) := by
  simp [Ideal.ofBits, Ideal.ieee]

/-! ### Operations on finite values stay finite -/

/-- A sum of real numbers, taken among the extended reals, is the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real quotient by a nonzero real number. -/
theorem div_coe_coe (x : ℝ) {y : ℝ} (hy : y ≠ 0) : Ideal.div (x : EReal) (y : EReal) = ((x / y : ℝ) : EReal) := by
  rw [Ideal.div_coe hy, ← EReal.coe_mul, mul_one_div]

/-- The reciprocal root of a positive real number. -/
theorem rsqrt_coe_pos {v : ℝ} (hv : 0 < v) : Ideal.rsqrt (v : EReal) = ((1 / Real.sqrt v : ℝ) : EReal) := by
  rw [Ideal.rsqrt_coe, if_neg (not_lt.mpr hv.le), if_neg hv.ne', one_div]

/-- The root of a positive real number. -/
theorem sqrt_coe_pos {v : ℝ} (hv : 0 < v) : Ideal.sqrt (v : EReal) = ((Real.sqrt v : ℝ) : EReal) := by
  rw [Ideal.sqrt_coe, if_neg (not_lt.mpr hv.le)]

/-- The greater of two real numbers. -/
theorem max_coe (x y : ℝ) : max (x : EReal) (y : EReal) = ((max x y : ℝ) : EReal) :=
  (EReal.coe_strictMono.monotone.map_max).symm

/-- The maximum, from minus infinity, of finitely many (at least one) finite values is finite. -/
theorem fold_max_coe {n : ℕ} (f : Fin (n + 1) → ℝ) :
    ∃ v : ℝ, Finset.univ.fold max (⊥ : EReal) (fun k => (f k : EReal)) = (v : EReal) := by
  classical
  have key : ∀ s : Finset (Fin (n + 1)), s.fold max (⊥ : EReal) (fun k => (f k : EReal)) = ⊥ ∧ s = ∅
      ∨ ∃ v : ℝ, s.fold max (⊥ : EReal) (fun k => (f k : EReal)) = (v : EReal) := by
    intro s
    induction s using Finset.induction_on with
    | empty => left; simp
    | insert a s ha ih =>
      right
      rw [Finset.fold_insert ha]
      rcases ih with ⟨h, -⟩ | ⟨v, h⟩
      · exact ⟨f a, by rw [h]; simp⟩
      · exact ⟨max (f a) v, by rw [h, max_coe]⟩
  rcases key Finset.univ with ⟨-, h⟩ | h
  · exact absurd h Finset.univ_nonempty.ne_empty
  · exact h

/-! ### The normalization of a row -/

/-- The mean of a row. -/
def mean {n : ℕ} (x : Fin n → ℝ) : ℝ := (∑ k, x k) / n

/-- The variance of a row: the mean of the squared distances from the mean. -/
def var {n : ℕ} (x : Fin n → ℝ) : ℝ := (∑ k, (x k - mean x) * (x k - mean x)) / n

/-- The normalized row. -/
def norm {n : ℕ} (x : Fin n → ℝ) (k : Fin n) : ℝ := (x k - mean x) / Real.sqrt (var x + eps)

/-- A variance is not negative. -/
theorem var_nonneg {n : ℕ} (x : Fin n → ℝ) : 0 ≤ var x :=
  div_nonneg (Finset.sum_nonneg fun _ _ => mul_self_nonneg _) (Nat.cast_nonneg n)

/-- A variance with the small constant added is positive. -/
theorem var_eps_pos {n : ℕ} (x : Fin n → ℝ) : 0 < var x + eps := add_pos_of_nonneg_of_pos (var_nonneg x) eps_pos

/-- The mean of the squares less the square of the mean is the variance. -/
theorem var_one_pass {n : ℕ} (hn : n ≠ 0) (x : Fin n → ℝ) :
    (∑ k, x k * x k) / n - mean x * mean x = var x := by
  have hn' : (n : ℝ) ≠ 0 := Nat.cast_ne_zero.mpr hn
  have hs : ∑ k, x k = n * mean x := by unfold mean; field_simp
  have h : ∑ k, (x k - mean x) * (x k - mean x) = ∑ k, x k * x k - n * (mean x * mean x) := by
    have : ∀ k, (x k - mean x) * (x k - mean x) = x k * x k - 2 * mean x * x k + mean x * mean x := fun k => by ring
    simp only [this, Finset.sum_add_distrib, Finset.sum_sub_distrib, ← Finset.mul_sum, hs, Finset.sum_const,
      Finset.card_univ, Fintype.card_fin, nsmul_eq_mul]
    ring
  unfold var
  rw [h]
  field_simp

/-! ### The softmax of a row -/

/-- The softmax of a row. -/
def softmax {n : ℕ} (z : Fin n → ℝ) (k : Fin n) : ℝ := Real.exp (z k) / ∑ i, Real.exp (z i)

/-- A nonempty sum of exponentials is positive. -/
theorem sum_exp_pos {n : ℕ} (hn : n ≠ 0) (z : Fin n → ℝ) : 0 < ∑ i, Real.exp (z i) := by
  haveI : Nonempty (Fin n) := ⟨⟨0, Nat.pos_of_ne_zero hn⟩⟩
  exact Finset.sum_pos (fun _ _ => Real.exp_pos _) Finset.univ_nonempty

/-- A shift of the whole row by a constant does not change its softmax. -/
theorem softmax_shift {n : ℕ} (z : Fin n → ℝ) (c : ℝ) (k : Fin n) :
    Real.exp (z k - c) / ∑ i, Real.exp (z i - c) = softmax z k := by
  simp only [Real.exp_sub, ← Finset.sum_div, softmax]
  rw [div_div_div_cancel_right₀ (Real.exp_pos c).ne']

/-- A row divided by a positive number has its mean divided by it. -/
theorem mean_div {n : ℕ} (x : Fin n → ℝ) (c : ℝ) : mean (fun k => x k / c) = mean x / c := by
  simp only [mean, ← Finset.sum_div]; ring

/-- A row divided by a number has its variance divided by the square. -/
theorem var_div {n : ℕ} (x : Fin n → ℝ) (c : ℝ) : var (fun k => x k / c) = var x / (c * c) := by
  unfold var
  rw [mean_div]
  have : ∀ k, (x k / c - mean x / c) * (x k / c - mean x / c) = (x k - mean x) * (x k - mean x) / (c * c) :=
    fun k => by ring
  simp only [this, ← Finset.sum_div]
  ring

/-- Normalizing a row divided by `c > 0` is normalizing the row with the small constant scaled by `c * c`. -/
theorem norm_div {n : ℕ} (x : Fin n → ℝ) {c : ℝ} (hc : 0 < c) (k : Fin n) :
    norm (fun k => x k / c) k = (x k - mean x) / Real.sqrt (var x + eps * c * c) := by
  unfold norm
  rw [mean_div, var_div]
  have h : var x / (c * c) + eps = (var x + eps * c * c) / (c * c) := by field_simp
  rw [h, Real.sqrt_div' _ (mul_self_nonneg c), Real.sqrt_mul_self hc.le, ← sub_div, div_div_div_cancel_right₀ hc.ne']

/-- A variance with a scaled small constant added is positive. -/
theorem var_scaled_pos {n : ℕ} (x : Fin n → ℝ) {c : ℝ} (hc : 0 < c) : 0 < var x + eps * c * c :=
  add_pos_of_nonneg_of_pos (var_nonneg x) (mul_pos (mul_pos eps_pos hc) hc)

/-- The normalized softmax of a row, from the exponentials without a division. -/
theorem norm_softmax {n : ℕ} (hn : n ≠ 0) (z : Fin n → ℝ) (k : Fin n) :
    norm (softmax z) k = (Real.exp (z k) - mean fun i => Real.exp (z i))
      / Real.sqrt ((var fun i => Real.exp (z i)) + eps * (∑ i, Real.exp (z i)) * ∑ i, Real.exp (z i)) :=
  norm_div (fun i => Real.exp (z i)) (sum_exp_pos hn z) k

/-! ### Two rows side by side -/

/-- Two rows of 64 side by side. -/
def cat (r l : Fin 64 → ℝ) (k : Fin 128) : ℝ :=
  if h : (k : ℕ) < 64 then r ⟨k, h⟩ else l ⟨k - 64, by omega⟩

/-- The first 64 entries of a joined row. -/
theorem cat_left (r l : Fin 64 → ℝ) (k : Fin 64) : cat r l (Fin.castAdd 64 k) = r k := by
  unfold cat; rw [dif_pos (by simp)]; rfl

/-- The last 64 entries of a joined row. -/
theorem cat_right (r l : Fin 64 → ℝ) (k : Fin 64) : cat r l (Fin.natAdd 64 k) = l k := by
  unfold cat; rw [dif_neg (by simp)]; congr 1; ext; simp

/-- A sum over 128 columns is the sum over the first 64 and the sum over the last 64. -/
theorem sum_halves (f : Fin 128 → ℝ) :
    ∑ k, f k = ∑ k : Fin 64, f (Fin.castAdd 64 k) + ∑ k : Fin 64, f (Fin.natAdd 64 k) :=
  Fin.sum_univ_add (a := 64) (b := 64) f

/-! ### What one row goes through -/

/-- The projected normalized representation of one row. -/
def rRow (x : Fin 256 → ℝ) (Wr : Fin 256 → Fin 64 → ℝ) (j : Fin 64) : ℝ := ∑ k, norm x k * Wr k j

/-- The projected normalized class probabilities of one row. -/
def lRow (z : Fin 64 → ℝ) (Wl : Fin 64 → Fin 64 → ℝ) (j : Fin 64) : ℝ := ∑ k, norm (softmax z) k * Wl k j

/-- The fused hidden vector of one row. -/
def hRow (r l : Fin 64 → ℝ) (Wf : Fin 128 → Fin 64 → ℝ) (j : Fin 64) : ℝ := max (∑ k, norm (cat r l) k * Wf k j) 0

/-- The attention score of one row. -/
def score (h wa : Fin 64 → ℝ) : ℝ := ∑ k, h k * wa k

/-! ### The kernel's factors for a power-of-two row length -/

/-- The mean of 256 entries as a product. -/
theorem sum_mul_256 (x : Fin 256 → ℝ) : (∑ k, x k) * (1 / 256) = mean x := by unfold mean; push_cast; ring
/-- The mean of 64 entries as a product. -/
theorem sum_mul_64 (x : Fin 64 → ℝ) : (∑ k, x k) * (1 / 64) = mean x := by unfold mean; push_cast; ring
/-- The mean of 128 entries as a product. -/
theorem sum_mul_128 (x : Fin 128 → ℝ) : (∑ k, x k) * (1 / 128) = mean x := by unfold mean; push_cast; ring

/-- The one-pass variance of 256 entries. -/
theorem var_256 (x : Fin 256 → ℝ) : mean (fun k => x k * x k) - mean x * mean x = var x :=
  var_one_pass (by norm_num) x
/-- The one-pass variance of 64 entries. -/
theorem var_64 (x : Fin 64 → ℝ) : mean (fun k => x k * x k) - mean x * mean x = var x :=
  var_one_pass (by norm_num) x
/-- The one-pass variance of 128 entries. -/
theorem var_128 (x : Fin 128 → ℝ) : mean (fun k => x k * x k) - mean x * mean x = var x :=
  var_one_pass (by norm_num) x

/-- A row scaled and shifted the kernel's way is the normalized row. -/
theorem scale_shift {n : ℕ} (x : Fin n → ℝ) (k : Fin n) :
    x k * (1 / Real.sqrt (var x + eps)) - mean x * (1 / Real.sqrt (var x + eps)) = norm x k := by
  unfold norm; ring

end Cert.Flow

end
-- ==== Proof.Pre.lean ====
module

public import proofs.«01_k».proof.Proof.Reals
public import proofs.«01_k».proof.Pre_plain_norms
public import Idealize.ShloMosaic.Lib.ReduceAll
public import Idealize.ShloMosaic.Lib.Affine
public import Idealize.ShloMosaic.Lib.Pointwise

/-!
# What the precondition says

The precondition is one bit, the conjunction of a test of each array it names. Each test is read back: a gain is one, a
bias is zero, an entry is a real number.
-/

@[expose] public section

set_option maxRecDepth 16384

noncomputable section

namespace Cert.Flow

open Idealize.ShloMosaic Idealize.ShloMosaic.TcCoe

section Tests

variable {s u : Shape} {axes : List (Fin s.rank)}

/-- A conjunction of two bits that is one has both bits one. -/
theorem and_split {x y : IVec (⟨0, ![]⟩ : Shape) 1} (h : andi x y ix0 = 1#1) : x ix0 = 1#1 ∧ y ix0 = 1#1 := IntOp.andi_eq_one.mp h

/-- A bit made from a truth value that is one was made from `true`. -/
theorem ofBool_one {b : Bool} (h : BitVec.ofBool b = 1#1) : b = true := by
  cases b
  · exact absurd h (by decide)
  · rfl

/-- A finite absolute value is that of a real number. -/
theorem real_of_abs {x : EReal} (h : max x (-x) < ⊤) : ∃ r : ℝ, x = (r : EReal) := by
  induction x with
  | bot => simp at h
  | coe r => exact ⟨r, rfl⟩
  | top => simp at h

/-- If the test "every entry equals the constant" came out true, every entry is the constant. -/
theorem all_eq (x : Vec Ideal s .f32) (c : BitVec 32) (b : (⟨0, ![]⟩ : Shape).BroadcastsInDim s (![] : Fin 0 → Fin s.rank))
    (init : u.Idx → BitVec 1) (h : s.ReducesTo axes (⟨0, ![]⟩ : Shape)) (hu : 0 < u.numel)
    (e : Host.reduce IntOp.andi (cmpf .oeq x (broadcastInDim s ![] b (constant (F := Ideal) (⟨0, ![]⟩ : Shape) .f32 c))) init h hu ix0 = 1#1)
    (i : s.Idx) : x i = Ideal.ofBits .f32 c :=
  of_decide_eq_true (ofBool_one (Host.reduce_andi_eq_one _ init h hu ix0 e i (funext fun k : Fin 0 => k.elim0)))

/-- If the test "every absolute value is below infinity" came out true, every entry is a real number. -/
theorem all_fin (x : Vec Ideal s .f32) (b : (⟨0, ![]⟩ : Shape).BroadcastsInDim s (![] : Fin 0 → Fin s.rank))
    (init : u.Idx → BitVec 1) (h : s.ReducesTo axes (⟨0, ![]⟩ : Shape)) (hu : 0 < u.numel)
    (e : Host.reduce IntOp.andi (cmpf .olt (Host.absf x) (broadcastInDim s ![] b (constant (F := Ideal) (⟨0, ![]⟩ : Shape) .f32 0x7F800000#32)))
      init h hu ix0 = 1#1) (i : s.Idx) : ∃ r : ℝ, x i = (r : EReal) := by
  have hlt : max (x i) (-(x i)) < Ideal.ofBits .f32 0x7F800000#32 :=
    of_decide_eq_true (ofBool_one (Host.reduce_andi_eq_one _ init h hu ix0 e i (funext fun k : Fin 0 => k.elim0)))
  rw [ofBits_pos_inf] at hlt
  exact real_of_abs hlt

/-- The same for an array of no axes, compared without spreading the bound. -/
theorem all_fin0 (x : Vec Ideal (⟨0, ![]⟩ : Shape) .f32) {axes : List (Fin 0)}
    (init : u.Idx → BitVec 1) (h : (⟨0, ![]⟩ : Shape).ReducesTo axes (⟨0, ![]⟩ : Shape)) (hu : 0 < u.numel)
    (e : Host.reduce IntOp.andi (cmpf .olt (Host.absf x) (constant (F := Ideal) (⟨0, ![]⟩ : Shape) .f32 0x7F800000#32))
      init h hu ix0 = 1#1) : ∃ r : ℝ, x ix0 = (r : EReal) := by
  have hlt : max (x ix0) (-(x ix0)) < Ideal.ofBits .f32 0x7F800000#32 :=
    of_decide_eq_true (ofBool_one (Host.reduce_andi_eq_one _ init h hu ix0 e ix0 (funext fun k : Fin 0 => k.elim0)))
  rw [ofBits_pos_inf] at hlt
  exact real_of_abs hlt

end Tests

open Cert.Pre_plain_norms in
/-- What the precondition says of the arrays it is given: the gains are one, the biases zero, the other arrays that enter a
normalisation or an exponential hold real numbers. -/
structure Plain (x0 : Vec Ideal S32768x256 .f32) (x1 : Vec Ideal S32768x64 .f32) (x2 x3 : Vec Ideal S256 .f32)
    (x4 : Vec Ideal S64x256 .f32) (x5 x6 x7 : Vec Ideal S64 .f32) (x8 : Vec Ideal S64x64 .f32) (x9 : Vec Ideal S64 .f32)
    (x10 x11 : Vec Ideal S128 .f32) (x12 : Vec Ideal S64x128 .f32) (x13 : Vec Ideal S64 .f32) (x14 : Vec Ideal S1x64 .f32)
    (x15 : Vec Ideal S1 .f32) (x16 : Vec Ideal S_ .f32) (x17 x18 x20 x22 : Vec Ideal S64 .f32) : Prop where
  g2 : ∀ i, x2 i = (1 : EReal)
  g6 : ∀ i, x6 i = (1 : EReal)
  g10 : ∀ i, x10 i = (1 : EReal)
  g17 : ∀ i, x17 i = (1 : EReal)
  b3 : ∀ i, x3 i = (0 : EReal)
  b5 : ∀ i, x5 i = (0 : EReal)
  b7 : ∀ i, x7 i = (0 : EReal)
  b9 : ∀ i, x9 i = (0 : EReal)
  b11 : ∀ i, x11 i = (0 : EReal)
  b13 : ∀ i, x13 i = (0 : EReal)
  b18 : ∀ i, x18 i = (0 : EReal)
  b20 : ∀ i, x20 i = (0 : EReal)
  b22 : ∀ i, x22 i = (0 : EReal)
  f0 : ∀ i, ∃ r : ℝ, x0 i = (r : EReal)
  f1 : ∀ i, ∃ r : ℝ, x1 i = (r : EReal)
  f4 : ∀ i, ∃ r : ℝ, x4 i = (r : EReal)
  f8 : ∀ i, ∃ r : ℝ, x8 i = (r : EReal)
  f12 : ∀ i, ∃ r : ℝ, x12 i = (r : EReal)
  f14 : ∀ i, ∃ r : ℝ, x14 i = (r : EReal)
  f15 : ∀ i, ∃ r : ℝ, x15 i = (r : EReal)
  f16 : ∃ r : ℝ, x16 ix0 = (r : EReal)

open Cert.Pre_plain_norms in
/-- The precondition's bit, read back. -/
theorem plain_of_pre [Cert.Pre_plain_norms.Facts] {x0 : Vec Ideal S32768x256 .f32} {x1 : Vec Ideal S32768x64 .f32} {x2 x3 : Vec Ideal S256 .f32}
    {x4 : Vec Ideal S64x256 .f32} {x5 x6 x7 : Vec Ideal S64 .f32} {x8 : Vec Ideal S64x64 .f32} {x9 : Vec Ideal S64 .f32}
    {x10 x11 : Vec Ideal S128 .f32} {x12 : Vec Ideal S64x128 .f32} {x13 : Vec Ideal S64 .f32} {x14 : Vec Ideal S1x64 .f32}
    {x15 : Vec Ideal S1 .f32} {x16 : Vec Ideal S_ .f32} {x17 x18 : Vec Ideal S64 .f32} {x19 : Vec Ideal S64x64 .f32} {x20 : Vec Ideal S64 .f32}
    {x21 : Vec Ideal S64x64 .f32} {x22 : Vec Ideal S64 .f32} {x23 : Vec Ideal S_ .f32}
    (h : fn (F := Ideal) x0 x1 x2 x3 x4 x5 x6 x7 x8 x9 x10 x11 x12 x13 x14 x15 x16 x17 x18 x19 x20 x21 x22 x23 = fun _ => 1#1) :
    Plain x0 x1 x2 x3 x4 x5 x6 x7 x8 x9 x10 x11 x12 x13 x14 x15 x16 x17 x18 x20 x22 := by
  replace h := congrFun h ix0
  unfold fn fn_part1 fn_part2 fn_part3 fn_part4 fn_part5 at h
  dsimp only at h
  obtain ⟨h, f16⟩ := and_split h
  obtain ⟨h, f15⟩ := and_split h
  obtain ⟨h, f14⟩ := and_split h
  obtain ⟨h, f12⟩ := and_split h
  obtain ⟨h, f8⟩ := and_split h
  obtain ⟨h, f4⟩ := and_split h
  obtain ⟨h, f1⟩ := and_split h
  obtain ⟨h, f0⟩ := and_split h
  obtain ⟨h, b22⟩ := and_split h
  obtain ⟨h, b20⟩ := and_split h
  obtain ⟨h, b18⟩ := and_split h
  obtain ⟨h, b13⟩ := and_split h
  obtain ⟨h, b11⟩ := and_split h
  obtain ⟨h, b9⟩ := and_split h
  obtain ⟨h, b7⟩ := and_split h
  obtain ⟨h, b5⟩ := and_split h
  obtain ⟨h, b3⟩ := and_split h
  obtain ⟨h, g17⟩ := and_split h
  obtain ⟨h, g10⟩ := and_split h
  obtain ⟨h, g6⟩ := and_split h
  obtain ⟨_, g2⟩ := and_split h
  exact
    { g2 := fun i => (all_eq _ _ _ _ _ _ g2 i).trans Ideal.ofBits_one_f32
      g6 := fun i => (all_eq _ _ _ _ _ _ g6 i).trans Ideal.ofBits_one_f32
      g10 := fun i => (all_eq _ _ _ _ _ _ g10 i).trans Ideal.ofBits_one_f32
      g17 := fun i => (all_eq _ _ _ _ _ _ g17 i).trans Ideal.ofBits_one_f32
      b3 := fun i => (all_eq _ _ _ _ _ _ b3 i).trans Ideal.ofBits_zero_f32
      b5 := fun i => (all_eq _ _ _ _ _ _ b5 i).trans Ideal.ofBits_zero_f32
      b7 := fun i => (all_eq _ _ _ _ _ _ b7 i).trans Ideal.ofBits_zero_f32
      b9 := fun i => (all_eq _ _ _ _ _ _ b9 i).trans Ideal.ofBits_zero_f32
      b11 := fun i => (all_eq _ _ _ _ _ _ b11 i).trans Ideal.ofBits_zero_f32
      b13 := fun i => (all_eq _ _ _ _ _ _ b13 i).trans Ideal.ofBits_zero_f32
      b18 := fun i => (all_eq _ _ _ _ _ _ b18 i).trans Ideal.ofBits_zero_f32
      b20 := fun i => (all_eq _ _ _ _ _ _ b20 i).trans Ideal.ofBits_zero_f32
      b22 := fun i => (all_eq _ _ _ _ _ _ b22 i).trans Ideal.ofBits_zero_f32
      f0 := all_fin _ _ _ _ _ f0
      f1 := all_fin _ _ _ _ _ f1
      f4 := all_fin _ _ _ _ _ f4
      f8 := all_fin _ _ _ _ _ f8
      f12 := all_fin _ _ _ _ _ f12
      f14 := all_fin _ _ _ _ _ f14
      f15 := all_fin _ _ _ _ _ f15
      f16 := all_fin0 _ _ _ _ f16 }

end Cert.Flow

end
-- ==== Proof.Model.lean ====
module

public import proofs.«01_k».proof.Proof.Reals

/-!
# The computation on real numbers

`Inputs` holds the arguments both programs are stated on, as real numbers, and the definitions below are what both
compute from them before the two head matrices and the logit gain, which stay extended reals.
-/

@[expose] public section

noncomputable section

namespace Cert.Flow

open Idealize.ShloMosaic

/-- The finite arguments: packet rows `X`, logits `Z`, the weights as matrices applied from the right, `gamma`. -/
structure Inputs where
  X : Fin 32768 → Fin 256 → ℝ
  Z : Fin 32768 → Fin 64 → ℝ
  Wr : Fin 256 → Fin 64 → ℝ
  Wl : Fin 64 → Fin 64 → ℝ
  Wf : Fin 128 → Fin 64 → ℝ
  wa : Fin 64 → ℝ
  gam : ℝ

namespace Inputs

variable (a : Inputs)

/-- The projected packet row `n`. -/
def r (n : Fin 32768) : Fin 64 → ℝ := rRow (a.X n) a.Wr

/-- The projected row of softmaxed logits `n`. -/
def l (n : Fin 32768) : Fin 64 → ℝ := lRow (a.Z n) a.Wl

/-- The fused row `n`. -/
def h (n : Fin 32768) : Fin 64 → ℝ := hRow (a.r n) (a.l n) a.Wf

/-- The attention score of row `n`, without the bias. -/
def s (n : Fin 32768) : ℝ := score (a.h n) a.wa

/-- The unnormalised attention weights' sum. -/
def den : ℝ := ∑ n, Real.exp (a.s n)

/-- The rows summed with the unnormalised attention weights. -/
def num (j : Fin 64) : ℝ := ∑ n, Real.exp (a.s n) * a.h n j

/-- The flow vector. -/
def flow (j : Fin 64) : ℝ := (∑ n, a.r n j) * (1 / 32768) + a.gam * (a.num j / a.den)

/-- The logits' mean. -/
def zbar (j : Fin 64) : ℝ := (∑ n, a.Z n j) * (1 / 32768)

/-- The unnormalised weights' sum is positive. -/
theorem den_pos : 0 < a.den := by
  refine Finset.sum_pos (fun n _ => Real.exp_pos _) ⟨0, Finset.mem_univ _⟩

/-- The result, over the two head matrices (applied from the right) and the logit gain. -/
def result (w1 w2 : Fin 64 → Fin 64 → EReal) (g : EReal) (j : Fin 64) : EReal :=
  (a.zbar j : EReal) + g * ∑ k : Fin 64, max (∑ i : Fin 64, (norm a.flow i : EReal) * w1 i k) 0 * w2 k j

end Inputs

end Cert.Flow

end
-- ==== Proof.Arguments.lean ====
module

public import proofs.«01_k».proof.Proof.Pre
public import proofs.«01_k».proof.Proof.Model

/-!
# The real numbers the arguments hold

The model's inputs, read off the argument arrays.
-/

@[expose] public section

set_option maxRecDepth 16384

noncomputable section

namespace Cert.Flow

open Idealize.ShloMosaic Idealize.ShloMosaic.TcCoe Idealize.SL.Sem

open Cert.Pre_plain_norms in
/-- The model's inputs: the argument arrays as real numbers, the weight matrices turned to be applied from the right. -/
def inputs (x0 : Vec Ideal S32768x256 .f32) (x1 : Vec Ideal S32768x64 .f32) (x4 : Vec Ideal S64x256 .f32) (x8 : Vec Ideal S64x64 .f32)
    (x12 : Vec Ideal S64x128 .f32) (x14 : Vec Ideal S1x64 .f32) (x16 : Vec Ideal S_ .f32) : Inputs where
  X n k := (x0 (ix2 n k)).toReal
  Z n k := (x1 (ix2 n k)).toReal
  Wr k j := (x4 (ix2 j k)).toReal
  Wl k j := (x8 (ix2 j k)).toReal
  Wf k j := (x12 (ix2 j k)).toReal
  wa j := (x14 (ix2 0 j)).toReal
  gam := (x16 ix0).toReal

/-- A real number among the extended reals is its own real part. -/
theorem real_part {x : EReal} (h : ∃ r : ℝ, x = (r : EReal)) : x = ((x.toReal : ℝ) : EReal) := by
  obtain ⟨r, rfl⟩ := h
  rfl

end Cert.Flow

end
-- ==== Proof.Tile.lean ====
/-
  What one block of 8192 rows computes: each value the kernel's body works out, read at one index, as a real number
  of the block's rows and of the weights.
-/
module

public import proofs.«01_k».proof.Proof.Reals
public import proofs.«01_k».proof.Proof.Gen.KernelIdeal.Skeleton

@[expose] public section

set_option maxRecDepth 16384

noncomputable section

namespace Cert.Flow

open Idealize.ShloMosaic Idealize.ShloMosaic.TcCoe Idealize.SL.Sem
open Cert.KernelIdeal Cert.KernelIdeal.Gen

/-- The projected representations of the block: row `i` is `rRow` of the block's row `i`. -/
theorem pay7_at (x : FVec Ideal S8192x256 .f32) (w : FVec Ideal S256x64 .f32) (X : Fin 8192 → Fin 256 → ℝ)
    (W : Fin 256 → Fin 64 → ℝ) (hx : ∀ i k, x (ix2 i k) = (X i k : EReal)) (hw : ∀ k j, w (ix2 k j) = (W k j : EReal))
    (i : Fin 8192) (j : Fin 64) : k0_pay7 (F := Ideal) x w (ix2 i j) = (rRow (X i) W j : EReal) := by
  pointwise [k0_pay7]
  simp only [hx, hw, ofBits_inv256, ofBits_eps, coe_sum, ← EReal.coe_mul, ← EReal.coe_sub, ← EReal.coe_add,
    sum_mul_256, var_256, rsqrt_coe_pos (var_eps_pos _), scale_shift, rRow]

/-- The projected class probabilities of the block: row `i` is `lRow` of the block's row `i` of logits. -/
theorem pay13_at (z : FVec Ideal S8192x64 .f32) (w : FVec Ideal S64x64 .f32) (Z : Fin 8192 → Fin 64 → ℝ)
    (W : Fin 64 → Fin 64 → ℝ) (hz : ∀ i k, z (ix2 i k) = (Z i k : EReal)) (hw : ∀ k j, w (ix2 k j) = (W k j : EReal))
    (i : Fin 8192) (j : Fin 64) :
    k0_pay13 (F := Ideal) (k0_pay8 z) (k0_pay9 z) (k0_pay10 z) (k0_pay11 z) (k0_pay12 z) w (ix2 i j)
      = (lRow (Z i) W j : EReal) := by
  pointwise [k0_pay13, k0_pay8, k0_pay9, k0_pay10, k0_pay11, k0_pay12]
  have hs := sum_exp_pos (n := 64) (by norm_num) (Z i)
  have hpos := var_scaled_pos (fun k => Real.exp (Z i k)) hs
  simp only [hz, hw, ofBits_inv64, ofBits_eps, coe_sum, ← EReal.coe_mul, ← EReal.coe_sub, ← EReal.coe_add,
    Ideal.exp_coe, sum_mul_64, var_64 (fun k => Real.exp (Z i k)), rsqrt_coe_pos hpos, lRow, EReal.coe_eq_coe_iff]
  refine Finset.sum_congr rfl fun k _ => ?_
  rw [norm_softmax (by norm_num)]
  ring

section Fused

variable (v25 v27 : FVec Ideal S8192x64 .f32) (v28 v32 v36 v38 : FVec Ideal S8192 .f32) (v49 : FVec Ideal S64x64 .f32)
  (R L : Fin 8192 → Fin 64 → ℝ)

/-- The block's fused hidden rows: row `i` is `hRow` of the two projections of row `i`. -/
theorem pay19_at (wt wb : FVec Ideal S64x64 .f32) (W : Fin 128 → Fin 64 → ℝ)
    (hr : ∀ i j, v25 (ix2 i j) = (R i j : EReal))
    (hl : ∀ i j, k0_pay13 (F := Ideal) v27 v28 v32 v36 v38 v49 (ix2 i j) = (L i j : EReal))
    (hwt : ∀ k j, wt (ix2 k j) = (W (Fin.castAdd 64 k) j : EReal))
    (hwb : ∀ k j, wb (ix2 k j) = (W (Fin.natAdd 64 k) j : EReal)) (i : Fin 8192) (j : Fin 64) :
    k0_pay19 (F := Ideal) (k0_pay17 v25 v27 v28 v32 v36 v38 v49 wt) (k0_pay18 v25 v27 v28 v32 v36 v38 v49) wb (ix2 i j)
      = (hRow (R i) (L i) W j : EReal) := by
  have hm : (∑ k, R i k + ∑ k, L i k) * (1 / 128) = mean (cat (R i) (L i)) := by
    rw [← sum_mul_128, sum_halves]; simp only [cat_left, cat_right]
  have hv : (∑ k, R i k * R i k + ∑ k, L i k * L i k) * (1 / 128) - mean (cat (R i) (L i)) * mean (cat (R i) (L i))
      = var (cat (R i) (L i)) := by
    rw [← var_128, ← sum_mul_128 fun k => cat (R i) (L i) k * cat (R i) (L i) k, sum_halves]
    simp only [cat_left, cat_right]
  pointwise [k0_pay19, k0_pay17, k0_pay18, k0_pay16, k0_pay15, k0_pay14]
  simp only [hr, hl, hwt, hwb, ofBits_inv128, ofBits_eps, coe_sum, ← EReal.coe_mul, ← EReal.coe_sub, ← EReal.coe_add,
    hm, hv, rsqrt_coe_pos (var_eps_pos _), ← EReal.coe_zero, max_coe, EReal.coe_eq_coe_iff, hRow]
  rw [sum_halves]
  simp only [← scale_shift, cat_left, cat_right]

end Fused

section Pool

variable (v78 v84 : FVec Ideal S8192x64 .f32) (v85 : FVec Ideal S64x64 .f32) (v91 : FVec Ideal S1x64 .f32)
  (H : Fin 8192 → Fin 64 → ℝ) (wa : Fin 64 → ℝ)

/-- The block's attention scores. -/
theorem pay20_at (hh : ∀ i j, k0_pay19 (F := Ideal) v78 v84 v85 (ix2 i j) = (H i j : EReal))
    (hwa : ∀ j, v91 (ix2 0 j) = (wa j : EReal)) (i : Fin 8192) :
    k0_pay20 (F := Ideal) v78 v84 v85 v91 (ix1 i) = (score (H i) wa : EReal) := by
  pointwise [k0_pay20]
  simp only [hh, hwa, coe_sum, ← EReal.coe_mul, score]

/-- The new running maximum is finite when the scores are and the old maximum is not plus infinity. -/
theorem pay21_finite (s : Fin 8192 → ℝ) (hs : ∀ i, k0_pay20 (F := Ideal) v78 v84 v85 v91 (ix1 i) = (s i : EReal))
    (m0 : EReal) (hm0 : m0 ≠ ⊤) : ∃ m : ℝ, k0_pay21 (F := Ideal) v78 v84 v85 v91 m0 = (m : EReal) := by
  obtain ⟨v, hv⟩ := fold_max_coe (n := 8191) s
  have h : k0_pay21 (F := Ideal) v78 v84 v85 v91 m0 = max m0 (v : EReal) := by
    pointwise [k0_pay21]
    simp only [hs, ← hv, ofBits_neg_inf]
  rw [h]
  induction m0 using EReal.rec with
  | bot => exact ⟨v, by simp⟩
  | coe a => exact ⟨max a v, max_coe a v⟩
  | top => exact absurd rfl hm0

/-- The block's weights, relative to the new running maximum `m`. -/
theorem pay23_at (s : Fin 8192 → ℝ) (hs : ∀ i, k0_pay20 (F := Ideal) v78 v84 v85 v91 (ix1 i) = (s i : EReal))
    (m0 : EReal) (m : ℝ) (hm : k0_pay21 (F := Ideal) v78 v84 v85 v91 m0 = (m : EReal)) (i : Fin 8192) :
    k0_pay23 (F := Ideal) v78 v84 v85 v91 m0 (ix1 i) = (Real.exp (s i - m) : EReal) := by
  pointwise [k0_pay23]
  simp only [hs, hm, ← EReal.coe_sub, Ideal.exp_coe]

/-- The new running sum of weights: the old one rescaled, and the block's. -/
theorem pay24_at (s : Fin 8192 → ℝ) (hs : ∀ i, k0_pay20 (F := Ideal) v78 v84 v85 v91 (ix1 i) = (s i : EReal))
    (m0 : EReal) (m : ℝ) (hm : k0_pay21 (F := Ideal) v78 v84 v85 v91 m0 = (m : EReal)) (p : EReal) :
    k0_pay24 (F := Ideal) v78 v84 v85 v91 m0 p
      = p * Ideal.exp (m0 - (m : EReal)) + ((∑ i, Real.exp (s i - m) : ℝ) : EReal) := by
  have h23 := pay23_at v78 v84 v85 v91 s hs m0 m hm
  pointwise [k0_pay24, k0_pay22]
  simp only [h23, hm, coe_sum]
  rfl

/-- The new running weighted sum of hidden rows: the old one rescaled, and the block's. -/
theorem pay25_at (s : Fin 8192 → ℝ) (hh : ∀ i j, k0_pay19 (F := Ideal) v78 v84 v85 (ix2 i j) = (H i j : EReal))
    (hs : ∀ i, k0_pay20 (F := Ideal) v78 v84 v85 v91 (ix1 i) = (s i : EReal))
    (m0 : EReal) (m : ℝ) (hm : k0_pay21 (F := Ideal) v78 v84 v85 v91 m0 = (m : EReal)) (a : FVec Ideal S1x64 .f32)
    (j : Fin 64) :
    k0_pay25 (F := Ideal) v78 v84 v85 v91 m0 a (ix2 0 j)
      = a (ix2 0 j) * Ideal.exp (m0 - (m : EReal)) + ((∑ i, Real.exp (s i - m) * H i j : ℝ) : EReal) := by
  have h23 := pay23_at v78 v84 v85 v91 s hs m0 m hm
  pointwise [k0_pay25, k0_pay22]
  simp only [h23, hm, hh, ← EReal.coe_mul, coe_sum]
  rfl

end Pool

/-- The running sum of projected representations. -/
theorem pay2_at (v25 : FVec Ideal S8192x64 .f32) (R : Fin 8192 → Fin 64 → ℝ)
    (hr : ∀ i j, v25 (ix2 i j) = (R i j : EReal)) (a : FVec Ideal S1x64 .f32) (j : Fin 64) :
    k0_pay2 (F := Ideal) v25 a (ix2 0 j) = a (ix2 0 j) + ((∑ i, R i j : ℝ) : EReal) := by
  pointwise [k0_pay2]
  simp only [hr, coe_sum]

/-- The running sum of logits. -/
theorem pay3_at (z : FVec Ideal S8192x64 .f32) (Z : Fin 8192 → Fin 64 → ℝ)
    (hz : ∀ i j, z (ix2 i j) = (Z i j : EReal)) (a : FVec Ideal S1x64 .f32) (j : Fin 64) :
    k0_pay3 (F := Ideal) z a (ix2 0 j) = a (ix2 0 j) + ((∑ i, Z i j : ℝ) : EReal) := by
  pointwise [k0_pay3]
  simp only [hz, coe_sum]

/-- The weighted sum is stored as it is. -/
theorem pay1_eq (a : FVec Ideal S1x64 .f32) : k0_pay1 (F := Ideal) a = a := by
  unfold k0_pay1; exact shapeCast_self _ _

/-! ### The last block's closing computation -/

/-- The flow head: from the pooled row `flow`, the head's two products with a clamp at zero between them. -/
theorem pay5_at (a0 a1 : FVec Ideal S1x64 .f32) (q : EReal) (g : FVec Ideal S1x1 .f32) (w1 w2 : FVec Ideal S64x64 .f32)
    (flow : Fin 64 → ℝ)
    (hflow : ∀ j, a0 (ix2 0 j) * ((1 / 32768 : ℝ) : EReal) + g (ix2 0 0) * Ideal.div (a1 (ix2 0 j)) q = (flow j : EReal))
    (j : Fin 64) :
    k0_pay5 (F := Ideal) a0 a1 q g w1 w2 (ix2 0 j)
      = ∑ k : Fin 64, max (∑ i : Fin 64, (norm flow i : EReal) * w1 (ix2 i k)) 0 * w2 (ix2 k j) := by
  have hn : ∀ i, ((flow i - mean flow : ℝ) : EReal) * ((1 / Real.sqrt (var flow + eps) : ℝ) : EReal)
      = (norm flow i : EReal) := fun i => by
    rw [← EReal.coe_mul, ← scale_shift, sub_mul]
  pointwise [k0_pay5]
  simp only [ofBits_inv32768, ofBits_inv64, ofBits_eps]
  simp only [hflow, coe_sum, ← EReal.coe_mul, ← EReal.coe_sub, ← EReal.coe_add, sum_mul_64, var_64,
    rsqrt_coe_pos (var_eps_pos _)]
  simp only [EReal.coe_mul, hn]

/-- The result row: the mean of the logits and the weighted flow head. -/
theorem pay4_at (fl a2 : FVec Ideal S1x64 .f32) (lg : FVec Ideal S1x1 .f32) (j : Fin 64) :
    k0_pay4 (F := Ideal) fl a2 lg (ix2 0 j)
      = a2 (ix2 0 j) * ((1 / 32768 : ℝ) : EReal) + lg (ix2 0 0) * fl (ix2 0 j) := by
  pointwise [k0_pay4]
  rw [ofBits_inv32768]

end Cert.Flow

end
-- ==== Proof.Cases.lean ====
module

public import proofs.«01_k».proof.Proof.Tile
public import proofs.«01_k».proof.Proof.Gen.KernelIdeal.Value
public import Idealize.ShloMosaic.Lib.Pipeline.ValueKit
public import Idealize.ShloMosaic.Lib.Pipeline.ReadBack

/-!
# What one grid step leaves in the two scratch buffers and in the result

The step's definitions (`bMax`, `bDen`, `bAtt`, `bRow`, `bLog`) name the values it stores, as functions of the blocks at
the point and of what it finds; `first_*`, `middle_*` and `last_*` read the buffers after the first, a middle and the
last point, and `last_out` the result window after the last.
-/

@[expose] public section

set_option maxRecDepth 16384

noncomputable section

namespace Cert.Flow

open Idealize.ShloMosaic Idealize.ShloMosaic.TcCoe Idealize.SL.Sem
open Cert.KernelIdeal Cert.KernelIdeal.Gen Cert.KernelIdeal.Value

/-- Off the newest piece's rectangle (on axis `a`), the pieces' contents are those of the earlier pieces. -/
theorem canon_skip {s : Shape} {e : EltTy} (off size : Fin s.rank → ℕ) (inb : ∀ a, off a + size a ≤ s.size a)
    (w : (Rect.unit off size inb).shape.Idx → Elt Ideal e) (L : List (View.Piece (Elt Ideal) s e)) (y : s.Idx) (a : Fin s.rank)
    (h : (y a).val < off a ∨ off a + size a ≤ (y a).val) :
    View.canon (⟨Rect.unit off size inb, w⟩ :: L) y = View.canon L y := by
  refine View.canon_cons_of_not_mem _ _ fun hy => ?_
  have := (Rect.mem_set_unit (off := off) (size := size) (inb := inb)).1 hy a
  omega

/-- On the newest piece's rectangle the pieces' contents are its payload. -/
theorem canon_hit {s : Shape} {e : EltTy} (off size : Fin s.rank → ℕ) (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a).val = off a + (x a).val) :
    View.canon (⟨Rect.unit off size inb, w⟩ :: L) y = w x := by
  have hy : (Rect.unit off size inb).emb x = y := by
    funext a
    apply Fin.ext
    rw [h a]
    exact Rect.idx_unit_val off size inb x a
  rw [← hy]
  exact View.canon_cons_emb _ _ _ _

/-- Row `r` of a three-row array. -/
def rowOf (a : Vec Ideal S3x64 .f32) (r : Fin 3) : Vec Ideal S1x64 .f32 := fun x => a (ix2 r (x 1))

/-- The three rows as the first point stores them before anything is added. -/
def zeros : Vec Ideal S3x64 .f32 := k0_pay6 (F := Ideal)

/-- The array of zeros holds a zero at every entry. -/
theorem zeros_at (r : Fin 3) (j : Fin 64) : zeros (ix2 r j) = 0 := by
  show Ideal.ofBits .f32 0x00000000#32 = 0
  exact Ideal.ofBits_zero_f32

/-- A row read out of the three-row scratch holds that row's entries. -/
theorem rowOf_at (a : Vec Ideal S3x64 .f32) (r : Fin 3) (j : Fin 64) : rowOf a r (ix2 0 j) = a (ix2 r j) := rfl

/-- A load of one whole row of the three-row scratch is `rowOf`. -/
theorem ld_row (X : Vec Ideal S3x64 .f32) (r : Fin 3) (off : Fin S3x64.rank → ℕ) (hoff : off = ![r.val, 0])
    (inb : ∀ a, off a + (![1, 64] : Fin S3x64.rank → ℕ) a ≤ S3x64.size a) :
    (View.ld X (Rect.unit off ![1, 64] inb) : Vec Ideal S1x64 .f32) = rowOf X r := by
  funext x
  show X _ = X _
  congr 1
  subst hoff
  have hx : (x 0).val = 0 := by have := (x 0).isLt; simp only [S1x64] at this; simpa using this
  funext a
  apply Fin.ext
  refine (Rect.idx_unit_val _ _ inb x a).trans ?_
  fin_cases a
  · show r.val + (x 0).val = r.val
    omega
  · show 0 + (x 1).val = (x 1).val
    omega

/-- A load of one whole row from the pieces written so far is `rowOf` of their contents. -/
theorem readCov_row (L : List (View.Piece (Elt Ideal) S3x64 .f32)) (r : Fin 3) (off : Fin S3x64.rank → ℕ) (hoff : off = ![r.val, 0])
    (inb : ∀ a, off a + (![1, 64] : Fin S3x64.rank → ℕ) a ≤ S3x64.size a) :
    ((View.whole cc0_scratch0).readCov L (Rect.unit off ![1, 64] inb).toLoadRect : Vec Ideal S1x64 .f32) = rowOf (View.canon L) r := by
  rw [← ld_row (View.canon L) r off hoff inb, View.readCov_eq_canon']
  rfl

/-- The one-entry load of the running maximum and denominator, at position `r`. -/
theorem ld_two (X : Vec Ideal S2 .f32) (r : Fin 2) (off : Fin S2.rank → ℕ) (hoff : off = ![r.val])
    (inb : ∀ a, off a + (![1] : Fin S2.rank → ℕ) a ≤ S2.size a) (x : (Rect.unit off ![1] inb).shape.Idx) :
    View.ld X (Rect.unit off ![1] inb) x = X (ix1 r) := by
  show X _ = X _
  congr 1
  subst hoff
  have hx : (x 0).val = 0 := by
    have : (x 0).val < 1 := (x 0).isLt
    omega
  funext a
  apply Fin.ext
  refine (Rect.idx_unit_val _ _ inb x a).trans ?_
  fin_cases a
  show r.val + (x 0).val = r.val
  omega

variable (m : (ℓ : Loc nD τ sig) → Buf (Elt Ideal) ℓ) (c : Dev nD) (t : Fin cfg0.N)

/-- What a point carries: the result window, the three accumulator rows, the running maximum and denominator. -/
abbrev St := Vec Ideal S1x64 .f32 × Vec Ideal S3x64 .f32 × Vec Ideal S2 .f32

/-- The fused rows before the `relu` at a point: the left half's product. -/
def bLeft := k0_pay17 (k0_pay7 (iblk m c 0 t) (iblk m c 2 t)) (k0_pay8 (iblk m c 1 t)) (k0_pay9 (iblk m c 1 t)) (k0_pay10 (iblk m c 1 t))
  (k0_pay11 (iblk m c 1 t)) (k0_pay12 (iblk m c 1 t)) (iblk m c 3 t) (iblk m c 4 t)

/-- The right half's rows at a point, normalised. -/
def bRight := k0_pay18 (k0_pay7 (iblk m c 0 t) (iblk m c 2 t)) (k0_pay8 (iblk m c 1 t)) (k0_pay9 (iblk m c 1 t)) (k0_pay10 (iblk m c 1 t))
  (k0_pay11 (iblk m c 1 t)) (k0_pay12 (iblk m c 1 t)) (iblk m c 3 t)

/-- The running maximum stored at a point, over the one found. -/
def bMax (m0 : EReal) : EReal := k0_pay21 (bLeft m c t) (bRight m c t) (iblk m c 5 t) (iblk m c 6 t) m0

/-- The running denominator stored at a point. -/
def bDen (m0 p : EReal) : EReal := k0_pay24 (bLeft m c t) (bRight m c t) (iblk m c 5 t) (iblk m c 6 t) m0 p

/-- The weighted-sum row stored at a point. -/
def bAtt (m0 : EReal) (a : Vec Ideal S1x64 .f32) : Vec Ideal S1x64 .f32 :=
  k0_pay25 (bLeft m c t) (bRight m c t) (iblk m c 5 t) (iblk m c 6 t) m0 a

/-- The row of summed packet rows stored at a point. -/
def bRow (a : Vec Ideal S1x64 .f32) : Vec Ideal S1x64 .f32 := k0_pay2 (k0_pay7 (iblk m c 0 t) (iblk m c 2 t)) a

/-- The row of summed logits stored at a point. -/
def bLog (a : Vec Ideal S1x64 .f32) : Vec Ideal S1x64 .f32 := k0_pay3 (iblk m c 1 t) a

/-- After the first point: the running maximum. -/
theorem first_max (acc : St) (h0 : t.val % 4 = 0) (h1 : ¬t.val % 4 = 3) :
    (stAt0 m c t.val t.isLt acc).2.2 (ix1 0) = bMax m c t ⊥ := by
  rw [stAt0_A m c t acc h0 h1]
  frame_out
  refine (canon_skip _ _ _ _ _ _ 0 (by left; simp [ix1])).trans ?_
  refine (canon_hit _ _ _ _ _ _ (ix1 0) (by intro a; fin_cases a; simp [ix1])).trans ?_
  rw [bMax, ← ofBits_neg_inf]
  rfl

/-- After the first point: the running denominator. -/
theorem first_den (acc : St) (h0 : t.val % 4 = 0) (h1 : ¬t.val % 4 = 3) :
    (stAt0 m c t.val t.isLt acc).2.2 (ix1 1) = bDen m c t ⊥ 0 := by
  rw [stAt0_A m c t acc h0 h1]
  frame_out
  refine (canon_hit _ _ _ _ _ _ (ix1 0) (by intro a; fin_cases a; simp [ix1])).trans ?_
  rw [bDen, ← ofBits_neg_inf, ← Ideal.ofBits_zero_f32]
  rfl

/-- After the first point: row 1, the weighted sum. -/
theorem first_att (acc : St) (h0 : t.val % 4 = 0) (h1 : ¬t.val % 4 = 3) (j : Fin 64) :
    (stAt0 m c t.val t.isLt acc).2.1 (ix2 1 j) = bAtt m c t ⊥ (rowOf zeros 1) (ix2 0 j) := by
  rw [stAt0_A m c t acc h0 h1]
  frame_out
  refine (canon_skip _ _ _ _ _ _ 0 (by left; simp [ix2])).trans ?_
  refine (canon_skip _ _ _ _ _ _ 0 (by right; simp [ix2])).trans ?_
  refine (canon_hit _ _ _ _ _ _ (ix2 0 j) (by intro a; fin_cases a <;> simp [ix2])).trans ?_
  rw [pay1_eq]
  refine congrFun (congrArg (k0_pay25 (bLeft m c t) (bRight m c t) (iblk m c 5 t) (iblk m c 6 t) (Ideal.ofBits .f32 0xFF800000#32)) ((readCov_row _ 1 ![1, 0] rfl _).trans (funext fun x => (?_ : _ = rowOf zeros 1 x)))) (ix2 0 j) |>.trans ?_
  · show View.canon _ (ix2 1 (x 1)) = _
    exact canon_hit _ _ _ _ _ _ (ix2 1 (x 1)) (by intro a; fin_cases a <;> simp [ix2])
  · rw [bAtt, ← ofBits_neg_inf]

/-- After the first point: row 0, the summed packet rows. -/
theorem first_row (acc : St) (h0 : t.val % 4 = 0) (h1 : ¬t.val % 4 = 3) (j : Fin 64) :
    (stAt0 m c t.val t.isLt acc).2.1 (ix2 0 j) = bRow m c t (rowOf zeros 0) (ix2 0 j) := by
  rw [stAt0_A m c t acc h0 h1]
  frame_out
  refine (canon_skip _ _ _ _ _ _ 0 (by left; simp [ix2])).trans ?_
  refine (canon_hit _ _ _ _ _ _ (ix2 0 j) (by intro a; fin_cases a <;> simp [ix2])).trans ?_
  refine congrFun (congrArg (k0_pay2 (k0_pay7 (iblk m c 0 t) (iblk m c 2 t))) ((readCov_row _ 0 ![0, 0] rfl _).trans (funext fun x => (?_ : _ = rowOf zeros 0 x)))) (ix2 0 j) |>.trans ?_
  · show View.canon _ (ix2 0 (x 1)) = _
    refine (canon_skip _ _ _ _ _ _ 0 (by left; simp [ix2])).trans ?_
    exact canon_hit _ _ _ _ _ _ (ix2 0 (x 1)) (by intro a; fin_cases a <;> simp [ix2])
  · rfl

/-- After the first point: row 2, the summed logits. -/
theorem first_log (acc : St) (h0 : t.val % 4 = 0) (h1 : ¬t.val % 4 = 3) (j : Fin 64) :
    (stAt0 m c t.val t.isLt acc).2.1 (ix2 2 j) = bLog m c t (rowOf zeros 2) (ix2 0 j) := by
  rw [stAt0_A m c t acc h0 h1]
  frame_out
  refine (canon_hit _ _ _ _ _ _ (ix2 0 j) (by intro a; fin_cases a <;> simp [ix2])).trans ?_
  refine congrFun (congrArg (k0_pay3 (iblk m c 1 t)) ((readCov_row _ 2 ![2, 0] rfl _).trans (funext fun x => (?_ : _ = rowOf zeros 2 x)))) (ix2 0 j) |>.trans ?_
  · show View.canon _ (ix2 2 (x 1)) = _
    refine (canon_skip _ _ _ _ _ _ 0 (by right; simp [ix2])).trans ?_
    refine (canon_skip _ _ _ _ _ _ 0 (by right; simp [ix2])).trans ?_
    exact canon_hit _ _ _ _ _ _ (ix2 2 (x 1)) (by intro a; fin_cases a <;> simp [ix2])
  · rfl

/-- After the middle point: the running maximum. -/
theorem middle_max (acc : St) (h0 : ¬t.val % 4 = 0) (h1 : ¬t.val % 4 = 3) :
    (stAt0 m c t.val t.isLt acc).2.2 (ix1 0) = bMax m c t (acc.2.2 (ix1 0)) := by
  rw [stAt0_B m c t acc h0 h1]
  frame_out
  simp only [read_unread_whole]
  refine (canon_skip _ _ _ _ _ _ 0 (by left; simp [ix1])).trans ?_
  refine (canon_hit _ _ _ _ _ _ (ix1 0) (by intro a; fin_cases a; simp [ix1])).trans ?_
  rw [ld_two _ 0 ![0] rfl]
  rfl

/-- After the middle point: the running denominator. -/
theorem middle_den (acc : St) (h0 : ¬t.val % 4 = 0) (h1 : ¬t.val % 4 = 3) :
    (stAt0 m c t.val t.isLt acc).2.2 (ix1 1) = bDen m c t (acc.2.2 (ix1 0)) (acc.2.2 (ix1 1)) := by
  rw [stAt0_B m c t acc h0 h1]
  frame_out
  simp only [read_unread_whole]
  refine (canon_hit _ _ _ _ _ _ (ix1 0) (by intro a; fin_cases a; simp [ix1])).trans ?_
  rw [ld_two _ 0 ![0] rfl, ld_two _ 1 ![1] rfl]
  rfl

/-- After the middle point: row 1, the weighted sum. -/
theorem middle_att (acc : St) (h0 : ¬t.val % 4 = 0) (h1 : ¬t.val % 4 = 3) (j : Fin 64) :
    (stAt0 m c t.val t.isLt acc).2.1 (ix2 1 j) = bAtt m c t (acc.2.2 (ix1 0)) (rowOf acc.2.1 1) (ix2 0 j) := by
  rw [stAt0_B m c t acc h0 h1]
  frame_out
  simp only [read_unread_whole]
  refine (canon_skip _ _ _ _ _ _ 0 (by left; simp [ix2])).trans ?_
  refine (canon_skip _ _ _ _ _ _ 0 (by right; simp [ix2])).trans ?_
  refine (canon_hit _ _ _ _ _ _ (ix2 0 j) (by intro a; fin_cases a <;> simp [ix2])).trans ?_
  rw [pay1_eq]
  rw [ld_two _ 0 ![0] rfl, ld_row _ 1 ![1, 0] rfl]
  rfl

/-- After the middle point: row 0, the summed packet rows. -/
theorem middle_row (acc : St) (h0 : ¬t.val % 4 = 0) (h1 : ¬t.val % 4 = 3) (j : Fin 64) :
    (stAt0 m c t.val t.isLt acc).2.1 (ix2 0 j) = bRow m c t (rowOf acc.2.1 0) (ix2 0 j) := by
  rw [stAt0_B m c t acc h0 h1]
  frame_out
  simp only [read_unread_whole]
  refine (canon_skip _ _ _ _ _ _ 0 (by left; simp [ix2])).trans ?_
  refine (canon_hit _ _ _ _ _ _ (ix2 0 j) (by intro a; fin_cases a <;> simp [ix2])).trans ?_
  rw [ld_row _ 0 ![0, 0] rfl]
  rfl

/-- After the middle point: row 2, the summed logits. -/
theorem middle_log (acc : St) (h0 : ¬t.val % 4 = 0) (h1 : ¬t.val % 4 = 3) (j : Fin 64) :
    (stAt0 m c t.val t.isLt acc).2.1 (ix2 2 j) = bLog m c t (rowOf acc.2.1 2) (ix2 0 j) := by
  rw [stAt0_B m c t acc h0 h1]
  frame_out
  simp only [read_unread_whole]
  refine (canon_hit _ _ _ _ _ _ (ix2 0 j) (by intro a; fin_cases a <;> simp [ix2])).trans ?_
  rw [ld_row _ 2 ![2, 0] rfl]
  rfl

/-- After the last point: the running maximum. -/
theorem last_max (acc : St) (h0 : ¬t.val % 4 = 0) (h1 : t.val % 4 = 3) :
    (stAt0 m c t.val t.isLt acc).2.2 (ix1 0) = bMax m c t (acc.2.2 (ix1 0)) := by
  rw [stAt0_C m c t acc h0 h1]
  frame_out
  simp only [read_unread_whole]
  refine (canon_skip _ _ _ _ _ _ 0 (by left; simp [ix1])).trans ?_
  refine (canon_hit _ _ _ _ _ _ (ix1 0) (by intro a; fin_cases a; simp [ix1])).trans ?_
  rw [ld_two _ 0 ![0] rfl]
  rfl

/-- After the last point: the running denominator. -/
theorem last_den (acc : St) (h0 : ¬t.val % 4 = 0) (h1 : t.val % 4 = 3) :
    (stAt0 m c t.val t.isLt acc).2.2 (ix1 1) = bDen m c t (acc.2.2 (ix1 0)) (acc.2.2 (ix1 1)) := by
  rw [stAt0_C m c t acc h0 h1]
  frame_out
  simp only [read_unread_whole]
  refine (canon_hit _ _ _ _ _ _ (ix1 0) (by intro a; fin_cases a; simp [ix1])).trans ?_
  rw [ld_two _ 0 ![0] rfl, ld_two _ 1 ![1] rfl]
  rfl

/-- After the last point: row 1, the weighted sum. -/
theorem last_att (acc : St) (h0 : ¬t.val % 4 = 0) (h1 : t.val % 4 = 3) (j : Fin 64) :
    (stAt0 m c t.val t.isLt acc).2.1 (ix2 1 j) = bAtt m c t (acc.2.2 (ix1 0)) (rowOf acc.2.1 1) (ix2 0 j) := by
  rw [stAt0_C m c t acc h0 h1]
  frame_out
  simp only [read_unread_whole]
  refine (canon_skip _ _ _ _ _ _ 0 (by left; simp [ix2])).trans ?_
  refine (canon_skip _ _ _ _ _ _ 0 (by right; simp [ix2])).trans ?_
  refine (canon_hit _ _ _ _ _ _ (ix2 0 j) (by intro a; fin_cases a <;> simp [ix2])).trans ?_
  rw [pay1_eq]
  rw [ld_two _ 0 ![0] rfl, ld_row _ 1 ![1, 0] rfl]
  rfl

/-- After the last point: row 0, the summed packet rows. -/
theorem last_row (acc : St) (h0 : ¬t.val % 4 = 0) (h1 : t.val % 4 = 3) (j : Fin 64) :
    (stAt0 m c t.val t.isLt acc).2.1 (ix2 0 j) = bRow m c t (rowOf acc.2.1 0) (ix2 0 j) := by
  rw [stAt0_C m c t acc h0 h1]
  frame_out
  simp only [read_unread_whole]
  refine (canon_skip _ _ _ _ _ _ 0 (by left; simp [ix2])).trans ?_
  refine (canon_hit _ _ _ _ _ _ (ix2 0 j) (by intro a; fin_cases a <;> simp [ix2])).trans ?_
  rw [ld_row _ 0 ![0, 0] rfl]
  rfl

/-- After the last point: row 2, the summed logits. -/
theorem last_log (acc : St) (h0 : ¬t.val % 4 = 0) (h1 : t.val % 4 = 3) (j : Fin 64) :
    (stAt0 m c t.val t.isLt acc).2.1 (ix2 2 j) = bLog m c t (rowOf acc.2.1 2) (ix2 0 j) := by
  rw [stAt0_C m c t acc h0 h1]
  frame_out
  simp only [read_unread_whole]
  refine (canon_hit _ _ _ _ _ _ (ix2 0 j) (by intro a; fin_cases a <;> simp [ix2])).trans ?_
  rw [ld_row _ 2 ![2, 0] rfl]
  rfl

/-- After the last point: the result, from what the point leaves in the scratch. -/
theorem last_out (acc : St) (h0 : ¬t.val % 4 = 0) (h1 : t.val % 4 = 3) (j : Fin 64) :
    (stAt0 m c t.val t.isLt acc).1 (ix2 0 j)
      = k0_pay4 (k0_pay5 (rowOf (stAt0 m c t.val t.isLt acc).2.1 0) (rowOf (stAt0 m c t.val t.isLt acc).2.1 1)
          ((stAt0 m c t.val t.isLt acc).2.2 (ix1 1)) (iblk m c 7 t) (iblk m c 8 t) (iblk m c 9 t))
        (rowOf (stAt0 m c t.val t.isLt acc).2.1 2) (iblk m c 10 t) (ix2 0 j) := by
  rw [last_den m c t acc h0 h1]
  rw [stAt0_C m c t acc h0 h1]
  frame_out
  simp only [read_unread_whole]
  rw [readCov_row _ 0 ![0, 0] rfl, readCov_row _ 1 ![1, 0] rfl, readCov_row _ 2 ![2, 0] rfl, ld_two _ 0 ![0] rfl, ld_two _ 1 ![1] rfl]
  rfl

end Cert.Flow

end
-- ==== Proof.Blocks.lean ====
module

public import proofs.«01_k».proof.Proof.Tile
public import proofs.«01_k».proof.Proof.Gen.KernelIdeal.Value
public import Idealize.ShloMosaic.Lib.Pipeline.ValueKit
public import Idealize.ShloMosaic.Lib.Claim

/-!
# What the windows hold at a grid point, as entries of the kernel's arguments

Point `t` sees rows `8192·t … 8192·t + 8191` of the two data arrays and the whole of every weight; the host operations
before the launch transpose the weights, cut the fusion weight into its two halves and reshape the scalars.
-/

@[expose] public section

set_option maxRecDepth 16384

noncomputable section

namespace Cert.Flow

open Idealize.ShloMosaic Idealize.ShloMosaic.TcCoe Idealize.SL.Sem
open Cert.KernelIdeal Cert.KernelIdeal.Gen Cert.KernelIdeal.Value

/-- The grid index of point `t`: the two data windows move one tile per point, the weights' windows stay. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- Row `i` of tile `t`, as a row of the whole arrays. -/
def rowAt (t : Fin cfg0.N) (i : Fin 8192) : Fin 32768 :=
  ⟨t.val * 8192 + i.val, by have : t.val < 4 := lt_of_lt_of_eq t.isLt N_0; have := i.isLt; omega⟩

variable (m : (ℓ : Loc nD τ sig) → Buf (Elt Ideal) ℓ) (c : Dev nD) (t : Fin cfg0.N)

/-- Window 0 holds tile `t` of the packet rows. -/
theorem iblk0 (i : Fin 8192) (j : Fin 256) :
    iblk m c 0 t (ix2 i j) = m (c, Proc.devRef .tc main_arg0) (ix2 (rowAt t i) j) := by
  blk_ext [iblk, V, idx t, rowAt]

/-- Window 1 holds tile `t` of the logits. -/
theorem iblk1 (i : Fin 8192) (j : Fin 64) :
    iblk m c 1 t (ix2 i j) = m (c, Proc.devRef .tc main_arg1) (ix2 (rowAt t i) j) := by
  blk_ext [iblk, V, idx t, rowAt]

/-- Window 2 holds the packet weight, transposed. -/
theorem iblk2 (i : Fin 256) (j : Fin 64) : iblk m c 2 t (ix2 i j) = m (c, Proc.devRef .tc main_arg4) (ix2 j i) := by
  have e : iblk m c 2 t = V m c main_v1 := by blk_ext! [iblk, V, idx t]
  rw [e]
  entry_read
  pointwise

/-- Window 3 holds the logits weight, transposed. -/
theorem iblk3 (i : Fin 64) (j : Fin 64) : iblk m c 3 t (ix2 i j) = m (c, Proc.devRef .tc main_arg8) (ix2 j i) := by
  have e : iblk m c 3 t = V m c main_v2 := by blk_ext! [iblk, V, idx t]
  rw [e]
  entry_read
  pointwise

/-- Window 4 holds the first half of the fusion weight, transposed. -/
theorem iblk4 (i : Fin 64) (j : Fin 64) : iblk m c 4 t (ix2 i j) = m (c, Proc.devRef .tc main_arg12) (ix2 j (Fin.castAdd 64 i)) := by
  have e : iblk m c 4 t = V m c main_v3 := by blk_ext! [iblk, V, idx t]
  rw [e]
  entry_read
  pointwise
  rfl

/-- Window 5 holds the second half of the fusion weight, transposed. -/
theorem iblk5 (i : Fin 64) (j : Fin 64) : iblk m c 5 t (ix2 i j) = m (c, Proc.devRef .tc main_arg12) (ix2 j (Fin.natAdd 64 i)) := by
  have e : iblk m c 5 t = V m c main_v4 := by blk_ext! [iblk, V, idx t]
  rw [e]
  entry_read
  pointwise
  rfl

/-- Window 6 holds the attention weight. -/
theorem iblk6 (j : Fin 64) : iblk m c 6 t (ix2 0 j) = m (c, Proc.devRef .tc main_arg14) (ix2 0 j) := by
  have e : iblk m c 6 t = V m c main_v6 := by blk_ext! [iblk, V, idx t]
  rw [e]
  entry_read
  pointwise

/-- Window 7 holds `gamma`. -/
theorem iblk7 : iblk m c 7 t (ix2 0 0) = m (c, Proc.devRef .tc main_arg16) ix0 := by
  have e : iblk m c 7 t = V m c main_v7 := by blk_ext! [iblk, V, idx t]
  rw [e]
  entry_read
  pointwise

/-- Window 8 holds the first head weight, transposed. -/
theorem iblk8 (i : Fin 64) (j : Fin 64) : iblk m c 8 t (ix2 i j) = m (c, Proc.devRef .tc main_arg19) (ix2 j i) := by
  have e : iblk m c 8 t = V m c main_v8 := by blk_ext! [iblk, V, idx t]
  rw [e]
  entry_read
  pointwise

/-- Window 9 holds the second head weight, transposed. -/
theorem iblk9 (i : Fin 64) (j : Fin 64) : iblk m c 9 t (ix2 i j) = m (c, Proc.devRef .tc main_arg21) (ix2 j i) := by
  have e : iblk m c 9 t = V m c main_v9 := by blk_ext! [iblk, V, idx t]
  rw [e]
  entry_read
  pointwise

/-- Window 10 holds the logit gain. -/
theorem iblk10 : iblk m c 10 t (ix2 0 0) = m (c, Proc.devRef .tc main_arg23) ix0 := by
  have e : iblk m c 10 t = V m c main_v10 := by blk_ext! [iblk, V, idx t]
  rw [e]
  entry_read
  pointwise

end Cert.Flow

end
-- ==== Proof.Fold.lean ====
module

public import proofs.«01_k».proof.Proof.Model
public import proofs.«01_k».proof.Proof.Cases
public import proofs.«01_k».proof.Proof.Blocks
public import Idealize.ShloMosaic.Lib.Pointwise

/-!
# What the kernel's result holds

`Carried` is what the scratch buffers hold after the first points: for some finite running maximum, the two softmax
sums scaled by it, and the two plain column sums. One step keeps it (`first_carried`, `step_carried`), and the last
point's result is `Inputs.result` (`kernel_result`).
-/

@[expose] public section

set_option maxRecDepth 16384

noncomputable section

namespace Cert.Flow

open Idealize.ShloMosaic Idealize.ShloMosaic.TcCoe Idealize.SL.Sem
open Cert.KernelIdeal Cert.KernelIdeal.Gen Cert.KernelIdeal.Value

/-- The kernel's argument arrays on device `c` hold the real numbers `a`. -/
structure Reads (m : (ℓ : Loc nD τ sig) → Buf (Elt Ideal) ℓ) (c : Dev nD) (a : Inputs) : Prop where
  x : ∀ n k, m (c, Proc.devRef .tc main_arg0) (ix2 n k) = (a.X n k : EReal)
  z : ∀ n k, m (c, Proc.devRef .tc main_arg1) (ix2 n k) = (a.Z n k : EReal)
  wr : ∀ k j, m (c, Proc.devRef .tc main_arg4) (ix2 j k) = (a.Wr k j : EReal)
  wl : ∀ k j, m (c, Proc.devRef .tc main_arg8) (ix2 j k) = (a.Wl k j : EReal)
  wf : ∀ k j, m (c, Proc.devRef .tc main_arg12) (ix2 j k) = (a.Wf k j : EReal)
  wa : ∀ j, m (c, Proc.devRef .tc main_arg14) (ix2 0 j) = (a.wa j : EReal)
  gam : m (c, Proc.devRef .tc main_arg16) ix0 = (a.gam : EReal)

variable {m : (ℓ : Loc nD τ sig) → Buf (Elt Ideal) ℓ} {c : Dev nD} {a : Inputs} (ha : Reads m c a) (t : Fin cfg0.N)

include ha

/-- A point's projected packet rows. -/
theorem block_r (i : Fin 8192) (j : Fin 64) :
    k0_pay7 (F := Ideal) (iblk m c 0 t) (iblk m c 2 t) (ix2 i j) = (a.r (rowAt t i) j : EReal) :=
  pay7_at _ _ (fun i => a.X (rowAt t i)) a.Wr (fun i k => (iblk0 m c t i k).trans (ha.x _ _))
    (fun k j => (iblk2 m c t k j).trans (ha.wr _ _)) i j

/-- A point's projected logits rows. -/
theorem block_l (i : Fin 8192) (j : Fin 64) :
    k0_pay13 (F := Ideal) (k0_pay8 (iblk m c 1 t)) (k0_pay9 (iblk m c 1 t)) (k0_pay10 (iblk m c 1 t)) (k0_pay11 (iblk m c 1 t))
      (k0_pay12 (iblk m c 1 t)) (iblk m c 3 t) (ix2 i j) = (a.l (rowAt t i) j : EReal) :=
  pay13_at _ _ (fun i => a.Z (rowAt t i)) a.Wl (fun i k => (iblk1 m c t i k).trans (ha.z _ _))
    (fun k j => (iblk3 m c t k j).trans (ha.wl _ _)) i j

/-- A point's fused rows. -/
theorem block_h (i : Fin 8192) (j : Fin 64) :
    k0_pay19 (F := Ideal) (bLeft m c t) (bRight m c t) (iblk m c 5 t) (ix2 i j) = (a.h (rowAt t i) j : EReal) :=
  pay19_at _ _ _ _ _ _ _ (fun i => a.r (rowAt t i)) (fun i => a.l (rowAt t i)) _ _ a.Wf (block_r ha t) (block_l ha t)
    (fun k j => (iblk4 m c t k j).trans (ha.wf _ _)) (fun k j => (iblk5 m c t k j).trans (ha.wf _ _)) i j

/-- A point's scores. -/
theorem block_s (i : Fin 8192) :
    k0_pay20 (F := Ideal) (bLeft m c t) (bRight m c t) (iblk m c 5 t) (iblk m c 6 t) (ix1 i) = (a.s (rowAt t i) : EReal) :=
  pay20_at _ _ _ _ (fun i => a.h (rowAt t i)) a.wa (block_h ha t) (fun j => (iblk6 m c t j).trans (ha.wa _)) i

/-- The running maximum stays finite. -/
theorem bMax_finite (m0 : EReal) (h : m0 ≠ ⊤) : ∃ M : ℝ, bMax m c t m0 = (M : EReal) :=
  pay21_finite _ _ _ _ (fun i => a.s (rowAt t i)) (block_s ha t) m0 h

/-- The denominator's step, over the new maximum. -/
theorem bDen_at (m0 : EReal) (M : ℝ) (h : bMax m c t m0 = (M : EReal)) (p : EReal) :
    bDen m c t m0 p = p * Ideal.exp (m0 - (M : EReal)) + ((∑ i, Real.exp (a.s (rowAt t i) - M) : ℝ) : EReal) :=
  pay24_at _ _ _ _ (fun i => a.s (rowAt t i)) (block_s ha t) m0 M h p

/-- The weighted sum's step, over the new maximum. -/
theorem bAtt_at (m0 : EReal) (M : ℝ) (h : bMax m c t m0 = (M : EReal)) (v : Vec Ideal S1x64 .f32) (j : Fin 64) :
    bAtt m c t m0 v (ix2 0 j) = v (ix2 0 j) * Ideal.exp (m0 - (M : EReal))
      + ((∑ i, Real.exp (a.s (rowAt t i) - M) * a.h (rowAt t i) j : ℝ) : EReal) :=
  pay25_at _ _ _ _ (fun i => a.h (rowAt t i)) (fun i => a.s (rowAt t i)) (block_h ha t) (block_s ha t) m0 M h v j

/-- The packet rows' sum's step. -/
theorem bRow_at (v : Vec Ideal S1x64 .f32) (j : Fin 64) :
    bRow m c t v (ix2 0 j) = v (ix2 0 j) + ((∑ i, a.r (rowAt t i) j : ℝ) : EReal) :=
  pay2_at _ (fun i => a.r (rowAt t i)) (block_r ha t) v j

/-- The logits' sum's step. -/
theorem bLog_at (v : Vec Ideal S1x64 .f32) (j : Fin 64) :
    bLog m c t v (ix2 0 j) = v (ix2 0 j) + ((∑ i, a.Z (rowAt t i) j : ℝ) : EReal) :=
  pay3_at _ (fun i => a.Z (rowAt t i)) (fun i j => (iblk1 m c t i j).trans (ha.z _ _)) v j

omit ha

/-- The sum of `f` over the rows of tile `p`. -/
def tileSum (f : Fin 32768 → ℝ) (p : ℕ) : ℝ := if h : p < cfg0.N then ∑ i, f (rowAt ⟨p, h⟩ i) else 0

/-- A tile's part of a sum over the packets, at a grid point. -/
theorem tileSum_at (f : Fin 32768 → ℝ) : tileSum f t.val = ∑ i, f (rowAt t i) := dif_pos t.isLt

/-- The sum of `f` over the rows of the first `n` tiles. -/
def upTo (f : Fin 32768 → ℝ) (n : ℕ) : ℝ := ∑ p ∈ Finset.range n, tileSum f p

/-- Before the first tile the running sum is zero. -/
theorem upTo_zero (f : Fin 32768 → ℝ) : upTo f 0 = 0 := Finset.sum_range_zero _

/-- One tile more adds that tile's part to the running sum. -/
theorem upTo_succ (f : Fin 32768 → ℝ) : upTo f (t.val + 1) = upTo f t.val + ∑ i, f (rowAt t i) := by
  rw [← tileSum_at t f]
  exact Finset.sum_range_succ _ _

/-- The four tiles are all the rows. -/
theorem upTo_all (f : Fin 32768 → ℝ) : upTo f 4 = ∑ n, f n := by
  rw [Fin.sum_univ_tiles 4 8192 rfl f]
  unfold upTo
  rw [Finset.sum_range]
  refine Finset.sum_congr rfl fun p _ => ?_
  exact tileSum_at ⟨p.val, lt_of_lt_of_eq p.isLt N_0.symm⟩ f

/-- Rescaling a sum kept under the maximum `M` to the new maximum `M'` and adding a tile's terms. -/
theorem rescale {n : ℕ} (M M' A : ℝ) (s w : Fin n → ℝ) :
    ((Real.exp (-M) * A : ℝ) : EReal) * Ideal.exp ((M : EReal) - (M' : EReal)) + ((∑ i, Real.exp (s i - M') * w i : ℝ) : EReal)
      = ((Real.exp (-M') * (A + ∑ i, Real.exp (s i) * w i) : ℝ) : EReal) := by
  rw [← EReal.coe_sub, Ideal.exp_coe, ← EReal.coe_mul, ← EReal.coe_add, mul_add, Finset.mul_sum]
  congr 2
  · rw [mul_right_comm, ← Real.exp_add]
    ring_nf
  · refine Finset.sum_congr rfl fun i _ => ?_
    rw [← mul_assoc, ← Real.exp_add]
    ring_nf

/-- The same at the first tile, where nothing has been summed. -/
theorem rescale_first {n : ℕ} (M' : ℝ) (s w : Fin n → ℝ) (x : EReal) (hx : x = 0) :
    x * Ideal.exp ((⊥ : EReal) - (M' : EReal)) + ((∑ i, Real.exp (s i - M') * w i : ℝ) : EReal)
      = ((Real.exp (-M') * (0 + ∑ i, Real.exp (s i) * w i) : ℝ) : EReal) := by
  rw [hx, zero_mul, zero_add, zero_add, Finset.mul_sum]
  congr 1
  refine Finset.sum_congr rfl fun i _ => ?_
  rw [← mul_assoc, ← Real.exp_add]
  ring_nf

/-- What is carried after `n` points. -/
structure Carried (a : Inputs) (n : ℕ) (st : St) (M : ℝ) : Prop where
  max : st.2.2 (ix1 0) = (M : EReal)
  den : st.2.2 (ix1 1) = ((Real.exp (-M) * upTo (fun n => Real.exp (a.s n) * 1) n : ℝ) : EReal)
  att : ∀ j, st.2.1 (ix2 1 j) = ((Real.exp (-M) * upTo (fun n => Real.exp (a.s n) * a.h n j) n : ℝ) : EReal)
  row : ∀ j, st.2.1 (ix2 0 j) = ((upTo (fun n => a.r n j) n : ℝ) : EReal)
  log : ∀ j, st.2.1 (ix2 2 j) = ((upTo (fun n => a.Z n j) n : ℝ) : EReal)

include ha

/-- After the first point. -/
theorem first_carried (acc : St) (h0 : t.val % 4 = 0) (hz : t.val = 0) (h1 : ¬t.val % 4 = 3) :
    ∃ M, Carried a (t.val + 1) (stAt0 m c t.val t.isLt acc) M := by
  obtain ⟨M, hM⟩ := bMax_finite ha t ⊥ bot_ne_top
  have hu : ∀ f, upTo f (t.val + 1) = 0 + ∑ i, f (rowAt t i) := fun f => by rw [upTo_succ, hz, upTo_zero]
  refine ⟨M, ?_, ?_, fun j => ?_, fun j => ?_, fun j => ?_⟩
  · rw [first_max m c t acc h0 h1, hM]
  · rw [first_den m c t acc h0 h1, bDen_at ha t _ M hM, hu, ← rescale_first M _ _ _ rfl]
    simp only [mul_one]
  · rw [first_att m c t acc h0 h1, bAtt_at ha t _ M hM, hu, ← rescale_first M _ _ _ (zeros_at 1 j)]
    rfl
  · rw [first_row m c t acc h0 h1, bRow_at ha t, hu, rowOf_at, zeros_at, zero_add, zero_add]
  · rw [first_log m c t acc h0 h1, bLog_at ha t, hu, rowOf_at, zeros_at, zero_add, zero_add]

/-- A later point that stores these values keeps what is carried. -/
theorem carried_succ (acc st : St) (M : ℝ) (h : Carried a t.val acc M)
    (hmax : st.2.2 (ix1 0) = bMax m c t (acc.2.2 (ix1 0)))
    (hden : st.2.2 (ix1 1) = bDen m c t (acc.2.2 (ix1 0)) (acc.2.2 (ix1 1)))
    (hatt : ∀ j, st.2.1 (ix2 1 j) = bAtt m c t (acc.2.2 (ix1 0)) (rowOf acc.2.1 1) (ix2 0 j))
    (hrow : ∀ j, st.2.1 (ix2 0 j) = bRow m c t (rowOf acc.2.1 0) (ix2 0 j))
    (hlog : ∀ j, st.2.1 (ix2 2 j) = bLog m c t (rowOf acc.2.1 2) (ix2 0 j)) :
    ∃ M', Carried a (t.val + 1) st M' := by
  obtain ⟨M', hM⟩ := bMax_finite ha t (acc.2.2 (ix1 0)) (by rw [h.max]; exact EReal.coe_ne_top M)
  refine ⟨M', hmax.trans hM, ?_, fun j => ?_, fun j => ?_, fun j => ?_⟩
  · rw [hden, bDen_at ha t _ M' hM, h.max, h.den, upTo_succ, ← rescale M]
    simp only [mul_one]
  · rw [hatt, bAtt_at ha t _ M' hM, h.max, rowOf_at, h.att, upTo_succ, ← rescale M]
  · rw [hrow, bRow_at ha t, rowOf_at, h.row, upTo_succ, EReal.coe_add]
  · rw [hlog, bLog_at ha t, rowOf_at, h.log, upTo_succ, EReal.coe_add]

/-- Every later point keeps what is carried. -/
theorem step_carried (acc : St) (M : ℝ) (h : Carried a t.val acc M) (h0 : ¬t.val % 4 = 0) :
    ∃ M', Carried a (t.val + 1) (stAt0 m c t.val t.isLt acc) M' := by
  by_cases h1 : t.val % 4 = 3
  · exact carried_succ ha t acc _ M h (last_max m c t acc h0 h1) (last_den m c t acc h0 h1) (last_att m c t acc h0 h1)
      (last_row m c t acc h0 h1) (last_log m c t acc h0 h1)
  · exact carried_succ ha t acc _ M h (middle_max m c t acc h0 h1) (middle_den m c t acc h0 h1) (middle_att m c t acc h0 h1)
      (middle_row m c t acc h0 h1) (middle_log m c t acc h0 h1)

/-- What is carried after every point. -/
theorem carried_all : ∀ (n : ℕ) (hn : n < cfg0.N), ∃ M, Carried a (n + 1) (outsAt0 m c n hn) M
  | 0, hn => by
    rw [outsAt0_zero]
    exact first_carried ha ⟨0, hn⟩ _ (Nat.zero_mod _) rfl (by show ¬0 % 4 = 3; omega)
  | n + 1, hn => by
    obtain ⟨M, h⟩ := carried_all n (Nat.lt_of_succ_lt hn)
    have hN : n + 1 < 4 := lt_of_lt_of_eq hn N_0
    rw [outsAt0_succ]
    exact step_carried ha ⟨n + 1, hn⟩ _ M h (by show ¬(n + 1) % 4 = 0; omega)

/-- The result of the last point, over what it leaves in the scratch. -/
theorem last_result (acc : St) (M : ℝ) (h0 : ¬t.val % 4 = 0) (h1 : t.val % 4 = 3) (hst : Carried a 4 (stAt0 m c t.val t.isLt acc) M)
    (j : Fin 64) :
    (stAt0 m c t.val t.isLt acc).1 (ix2 0 j)
      = a.result (fun i k => m (c, Proc.devRef .tc main_arg19) (ix2 k i)) (fun k j => m (c, Proc.devRef .tc main_arg21) (ix2 j k))
          (m (c, Proc.devRef .tc main_arg23) ix0) j := by
  have hden : upTo (fun n => Real.exp (a.s n) * 1) 4 = a.den := by
    rw [upTo_all]
    simp only [mul_one]
    rfl
  have he : Real.exp (-M) ≠ 0 := (Real.exp_pos _).ne'
  rw [last_out m c t acc h0 h1, pay4_at, pay5_at _ _ _ _ _ _ a.flow ?_ j]
  · simp only [rowOf_at, hst.log, upTo_all, iblk8 m c t, iblk9 m c t, iblk10 m c t]
    rw [← EReal.coe_mul]
    rfl
  · intro j
    rw [rowOf_at, rowOf_at, hst.row, hst.att, hst.den, iblk7 m c t, ha.gam, upTo_all, upTo_all, hden,
      div_coe_coe _ (mul_ne_zero he a.den_pos.ne'), ← EReal.coe_mul, ← EReal.coe_mul, ← EReal.coe_add, mul_div_mul_left _ _ he]
    rfl

/-- THE KERNEL'S RESULT, entry by entry. -/
theorem kernel_result (j : Fin 64) :
    G11 m c (ix2 0 j)
      = a.result (fun i k => m (c, Proc.devRef .tc main_arg19) (ix2 k i)) (fun k j => m (c, Proc.devRef .tc main_arg21) (ix2 j k))
          (m (c, Proc.devRef .tc main_arg23) ix0) j := by
  have h3 : 3 < cfg0.N := lt_of_lt_of_eq (by decide) N_0.symm
  have e : G11 m c = (outsAt0 m c 3 h3).1 := by rw [G11_last, outsAt0_sweep]
  obtain ⟨M, hM⟩ := carried_all ha 3 h3
  rw [e]
  rw [outsAt0_succ] at hM ⊢
  exact last_result ha ⟨3, h3⟩ _ M (by show ¬3 % 4 = 0; omega) rfl hM j

end Cert.Flow

end
-- ==== Proof.KernelArguments.lean ====
module

public import proofs.«01_k».proof.Proof.Arguments
public import proofs.«01_k».proof.Proof.Fold

/-!
# The kernel's arguments, read
-/

@[expose] public section

set_option maxRecDepth 16384

noncomputable section

namespace Cert.Flow

open Idealize.ShloMosaic Idealize.ShloMosaic.TcCoe Idealize.SL.Sem

open Cert.KernelIdeal in
/-- Under the precondition the kernel's argument arrays hold the model's inputs. -/
theorem reads {m : (ℓ : Loc nD τ sig) → Buf (Elt Ideal) ℓ} {c : Dev nD}
    (p : Plain (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) (m (c, Proc.devRef .tc Cert.KernelIdeal.main_arg7)) (m (c, Proc.devRef .tc Cert.KernelIdeal.main_arg8)) (m (c, Proc.devRef .tc Cert.KernelIdeal.main_arg9)) (m (c, Proc.devRef .tc Cert.KernelIdeal.main_arg10)) (m (c, Proc.devRef .tc Cert.KernelIdeal.main_arg11)) (m (c, Proc.devRef .tc Cert.KernelIdeal.main_arg12)) (m (c, Proc.devRef .tc Cert.KernelIdeal.main_arg13)) (m (c, Proc.devRef .tc Cert.KernelIdeal.main_arg14)) (m (c, Proc.devRef .tc Cert.KernelIdeal.main_arg15)) (m (c, Proc.devRef .tc Cert.KernelIdeal.main_arg16)) (m (c, Proc.devRef .tc Cert.KernelIdeal.main_arg17)) (m (c, Proc.devRef .tc Cert.KernelIdeal.main_arg18)) (m (c, Proc.devRef .tc Cert.KernelIdeal.main_arg20)) (m (c, Proc.devRef .tc Cert.KernelIdeal.main_arg22))) :
    Reads m c (inputs (m (c, Proc.devRef .tc Cert.KernelIdeal.main_arg0)) (m (c, Proc.devRef .tc Cert.KernelIdeal.main_arg1)) (m (c, Proc.devRef .tc Cert.KernelIdeal.main_arg4)) (m (c, Proc.devRef .tc Cert.KernelIdeal.main_arg8)) (m (c, Proc.devRef .tc Cert.KernelIdeal.main_arg12)) (m (c, Proc.devRef .tc Cert.KernelIdeal.main_arg14)) (m (c, Proc.devRef .tc Cert.KernelIdeal.main_arg16))) where
  x n k := real_part (p.f0 _)
  z n k := real_part (p.f1 _)
  wr k j := real_part (p.f4 _)
  wl k j := real_part (p.f8 _)
  wf k j := real_part (p.f12 _)
  wa j := real_part (p.f14 _)
  gam := real_part p.f16

end Cert.Flow

end
-- ==== Proof.Ref.lean ====
module

public import proofs.«01_k».proof.Proof.Model
public import proofs.«01_k».proof.Proof.Gen.ReferenceIdeal.Run
public import Idealize.ShloMosaic.Lib.Pointwise

/-!
# What the reference computes

Each named value of the reference read at an index, as the real number `Model.lean` names.
-/

@[expose] public section

set_option maxRecDepth 16384

noncomputable section

namespace Cert.Flow

open Idealize.ShloMosaic Idealize.ShloMosaic.TcCoe Idealize.SL.Sem
open Cert.ReferenceIdeal Cert.ReferenceIdeal.Gen Cert.ReferenceIdeal.Value

/-- The maximum, from minus infinity, of a nonempty family of finite values is finite. -/
theorem fold_max_fin : ∀ {N : ℕ} (_ : N ≠ 0) (f : Fin N → ℝ),
    ∃ v : ℝ, Finset.univ.fold max (⊥ : EReal) (fun k => (f k : EReal)) = (v : EReal)
  | 0, h, _ => absurd rfl h
  | _ + 1, _, f => fold_max_coe f

/-- A maximum over one axis, from minus infinity, of finite values is finite. -/
theorem reduce_max_finite {s t u : Shape} {b : Fin s.rank} (hn : s.size b ≠ 0) (x : s.Idx → EReal)
    (hx : ∀ i, ∃ v : ℝ, x i = (v : EReal)) (init : u.Idx → EReal) (h' : s.ReducesTo [b] t) (h : s.Reduces [b] t) (hu : 0 < u.numel)
    (hinit : init (Shape.Idx.first hu) = ⊥) (j : t.Idx) :
    ∃ M : ℝ, Host.reduce (FloatOps.maximumf (F := Ideal) (φ := .f32)) x init h' hu j = (M : EReal) := by
  rw [Host.reduce_eq_fold_single _ _ _ h' h hu j, hinit]
  choose f hf using hx
  have e : (x ∘ h.lift j) = fun k => ((f (h.lift j k) : ℝ) : EReal) := funext fun k => hf _
  rw [e]
  exact fold_max_fin hn fun k => f (h.lift j k)

/-- An array finite at every pair of coordinates is finite at every index. -/
theorem finite2 {p q : ℕ} (x : (⟨2, ![p, q]⟩ : Shape).Idx → EReal) (f : Fin p → Fin q → ℝ)
    (h : ∀ n k, x (ix2 n k) = (f n k : EReal)) (i : (⟨2, ![p, q]⟩ : Shape).Idx) : ∃ v : ℝ, x i = (v : EReal) :=
  ⟨f (i 0) (i 1), .trans (congrArg x (by funext y; fin_cases y <;> rfl)) (h (i 0) (i 1))⟩

/-- An array finite at every coordinate is finite at every index. -/
theorem finite1 {p : ℕ} (x : (⟨1, ![p]⟩ : Shape).Idx → EReal) (f : Fin p → ℝ)
    (h : ∀ n, x (ix1 n) = (f n : EReal)) (i : (⟨1, ![p]⟩ : Shape).Idx) : ∃ v : ℝ, x i = (v : EReal) :=
  ⟨f (i 0), .trans (congrArg x (by funext y; fin_cases y; rfl)) (h (i 0))⟩

/-- The reference's mean of finite entries. -/
theorem mean_form {d : ℕ} (x : Fin d → ℝ) {N : ℝ} (hN : N = d) (hd : N ≠ 0) :
    Ideal.div (∑ i, (x i : EReal)) (N : EReal) = (mean x : EReal) := by
  rw [coe_sum, div_coe_coe _ hd, hN]; rfl

/-- The reference's normalised entry, with the variance taken about the mean, is the normalised entry. -/
theorem norm_form {d : ℕ} (x : Fin d → ℝ) {N : ℝ} (hN : N = d) (hd : 0 < N) (junk : EReal) [Decidable ((0 : EReal) < (N : EReal))]
    (k : Fin d) :
    Ideal.div ((x k : EReal) - Ideal.div (∑ i, (x i : EReal)) (N : EReal))
      (Ideal.sqrt ((if (0 : EReal) < (N : EReal) then
        Ideal.div (∑ i, ((x i - mean x : ℝ) : EReal) * ((x i - mean x : ℝ) : EReal)) (N : EReal) else junk) + (eps : EReal)))
      = (norm x k : EReal) := by
  rw [if_pos (EReal.coe_pos.mpr hd), mean_form x hN hd.ne']
  have e : (∑ i, ((x i - mean x : ℝ) : EReal) * ((x i - mean x : ℝ) : EReal))
      = ∑ i, (((x i - mean x) * (x i - mean x) : ℝ) : EReal) := by simp only [EReal.coe_mul]
  rw [e, coe_sum, div_coe_coe _ hd.ne']
  have e2 : (∑ i, (x i - mean x) * (x i - mean x)) / N = var x := by rw [hN]; rfl
  rw [e2, ← EReal.coe_add, sqrt_coe_pos (var_eps_pos x), ← EReal.coe_sub, div_coe_coe _ (Real.sqrt_pos.mpr (var_eps_pos x)).ne']
  rfl

/-- A count less the zero correction is the count. -/
theorem count_form (N : ℝ) : (N : EReal) - FloatOps.sitofp (F := Ideal) .f32 0#32 = (N : EReal) := by
  show (N : EReal) - (((0#32 : BitVec 32).toInt : ℝ) : EReal) = _
  simp

/-- The reference's argument arrays hold the real numbers `a` and the attention bias `ba`; the normalisations' gains
are one and the biases zero. -/
structure RefReads (V0 : Valuation τ sig (Elt Ideal)) (a : Inputs) (ba : ℝ) : Prop where
  x : ∀ n k, V0 (Proc.devRef .tc main_arg0) (ix2 n k) = (a.X n k : EReal)
  z : ∀ n k, V0 (Proc.devRef .tc main_arg1) (ix2 n k) = (a.Z n k : EReal)
  g2 : ∀ k, V0 (Proc.devRef .tc main_arg2) (ix1 k) = (1 : EReal)
  b3 : ∀ k, V0 (Proc.devRef .tc main_arg3) (ix1 k) = (0 : EReal)
  wr : ∀ k j, V0 (Proc.devRef .tc main_arg4) (ix2 j k) = (a.Wr k j : EReal)
  b5 : ∀ k, V0 (Proc.devRef .tc main_arg5) (ix1 k) = (0 : EReal)
  g6 : ∀ k, V0 (Proc.devRef .tc main_arg6) (ix1 k) = (1 : EReal)
  b7 : ∀ k, V0 (Proc.devRef .tc main_arg7) (ix1 k) = (0 : EReal)
  wl : ∀ k j, V0 (Proc.devRef .tc main_arg8) (ix2 j k) = (a.Wl k j : EReal)
  b9 : ∀ k, V0 (Proc.devRef .tc main_arg9) (ix1 k) = (0 : EReal)
  g10 : ∀ k, V0 (Proc.devRef .tc main_arg10) (ix1 k) = (1 : EReal)
  b11 : ∀ k, V0 (Proc.devRef .tc main_arg11) (ix1 k) = (0 : EReal)
  wf : ∀ k j, V0 (Proc.devRef .tc main_arg12) (ix2 j k) = (a.Wf k j : EReal)
  b13 : ∀ k, V0 (Proc.devRef .tc main_arg13) (ix1 k) = (0 : EReal)
  wa : ∀ j, V0 (Proc.devRef .tc main_arg14) (ix2 0 j) = (a.wa j : EReal)
  ba : V0 (Proc.devRef .tc main_arg15) (ix1 0) = (ba : EReal)
  gam : V0 (Proc.devRef .tc main_arg16) ix0 = (a.gam : EReal)
  g17 : ∀ k, V0 (Proc.devRef .tc main_arg17) (ix1 k) = (1 : EReal)
  b18 : ∀ k, V0 (Proc.devRef .tc main_arg18) (ix1 k) = (0 : EReal)
  b20 : ∀ k, V0 (Proc.devRef .tc main_arg20) (ix1 k) = (0 : EReal)
  b22 : ∀ k, V0 (Proc.devRef .tc main_arg22) (ix1 k) = (0 : EReal)

variable {V0 : Valuation τ sig (Elt Ideal)} {a : Inputs} {ba : ℝ} (hv : RefReads V0 a ba)

include hv

omit hv in
/-- The second axis is one that can be reduced away. -/
theorem red1 : S32768x64.Reduces [1] S32768 := by decide

/-- A row's largest logit is finite. -/
theorem rowMax (n : Fin 32768) : ∃ M : ℝ, Host.reduce (FloatOps.maximumf (F := Ideal) (φ := .f32)) (V0 (Proc.devRef .tc main_arg1))
    (constant (F := Ideal) S_ .f32 0xFF800000#32) reducesTo_S32768x64_S32768_d1 h_S_ (ix1 n) = (M : EReal) :=
  reduce_max_finite (b := 1) (by decide) _ (finite2 _ a.Z hv.z) _ _ red1 _ ofBits_neg_inf _

omit hv in
/-- The logits' exponentials, given the row maxima. -/
theorem v29_form (x : Vec Ideal S32768x64 .f32) (K : Vec Ideal S32768 .f32) (n : Fin 32768) (j : Fin 64) :
    Host.exp (subf x (broadcastInDim S32768x64 ![0, 1] bcast_S32768x1_S32768x64_0_1
      (broadcastInDim S32768x1 ![0] bcast_S32768_S32768x1_0 (maximumf (broadcastInDim S32768 ![] bcast_S_S32768
        (constant (F := Ideal) S_ .f32 0xFF800000#32)) K)))) (ix2 n j) = Ideal.exp (x (ix2 n j) - max (Ideal.ofBits .f32 0xFF800000#32) (K (ix1 n))) := by
  pointwise

/-- The logits' exponentials are those shifted by some finite row maximum. -/
theorem v29 (n : Fin 32768) : ∃ M : ℝ, ∀ j : Fin 64, res_main_v29 V0 (ix2 n j) = ((Real.exp (a.Z n j - M) : ℝ) : EReal) := by
  obtain ⟨M, hM⟩ := rowMax hv n
  refine ⟨M, fun j => ?_⟩
  refine (v29_form _ _ n j).trans ?_
  rw [hM, hv.z, ofBits_neg_inf, bot_sup_eq, ← EReal.coe_sub, Ideal.exp_coe]

end Cert.Flow

end
-- ==== Proof.RefRows.lean ====
module

public import proofs.«01_k».proof.Proof.Ref

/-!
# The rows the reference computes

The projected packet rows, the projected softmaxed logits, and the fused rows.
-/

@[expose] public section

set_option maxRecDepth 16384

noncomputable section

namespace Cert.Flow

open Idealize.ShloMosaic Idealize.ShloMosaic.TcCoe Idealize.SL.Sem
open Cert.ReferenceIdeal Cert.ReferenceIdeal.Gen Cert.ReferenceIdeal.Value

variable {V0 : Valuation τ sig (Elt Ideal)} {a : Inputs} {ba : ℝ} (hv : RefReads V0 a ba)

omit hv in
/-- The number of entries in a packet row: 256. -/
theorem v8_0 : res_main_call0_v8 V0 ix0 = ((256 : ℝ) : EReal) := by
  pointwise [res_main_call0_v8]
  rw [ofBits_256, count_form]

omit hv in
/-- The number of entries in a row of logits: 64. -/
theorem v8_1 : res_main_call1_v8 V0 ix0 = ((64 : ℝ) : EReal) := by
  pointwise [res_main_call1_v8]
  rw [ofBits_64, count_form]

omit hv in
/-- The number of entries in a joined row: 128. -/
theorem v8_2 : res_main_call2_v8 V0 ix0 = ((128 : ℝ) : EReal) := by
  pointwise [res_main_call2_v8]
  rw [ofBits_128, count_form]

include hv

/-- The packet rows about their means. -/
theorem v5_0 (n : Fin 32768) (k : Fin 256) : res_main_call0_v5 V0 (ix2 n k) = ((a.X n k - mean (a.X n) : ℝ) : EReal) := by
  pointwise [res_main_call0_v5]
  simp only [hv.x, ofBits_256]
  rw [mean_form _ (by norm_num) (by norm_num), EReal.coe_sub]

/-- The projected packet rows. -/
theorem v22 (n : Fin 32768) (j : Fin 64) : res_main_v22 V0 (ix2 n j) = (a.r n j : EReal) := by
  pointwise [res_main_v22]
  simp only [v8_0, v5_0 hv, hv.x, hv.g2, hv.b3, hv.wr, hv.b5, ofBits_256, ofBits_eps]
  simp only [norm_form (a.X n) (N := 256) (by norm_num) (by norm_num)]
  simp only [mul_one, add_zero, ← EReal.coe_mul]
  rw [coe_sum]
  rfl

/-- The softmaxed logits. -/
theorem v33 (n : Fin 32768) (k : Fin 64) : res_main_v33 V0 (ix2 n k) = (softmax (a.Z n) k : EReal) := by
  obtain ⟨M, hM⟩ := v29 hv n
  pointwise [res_main_v33]
  simp only [hM]
  rw [coe_sum, div_coe_coe _ (sum_exp_pos (by norm_num) fun i => a.Z n i - M).ne', softmax_shift]

/-- The softmaxed logits about their means. -/
theorem v5_1 (n : Fin 32768) (k : Fin 64) :
    res_main_call1_v5 V0 (ix2 n k) = ((softmax (a.Z n) k - mean (softmax (a.Z n)) : ℝ) : EReal) := by
  pointwise [res_main_call1_v5]
  simp only [v33 hv, ofBits_64]
  rw [mean_form _ (by norm_num) (by norm_num), EReal.coe_sub]

/-- The projected packet rows and the projected softmaxed logits, side by side. -/
theorem v57 (n : Fin 32768) (q : Fin 128) : res_main_v57 V0 (ix2 n q) = (cat (a.r n) (a.l n) q : EReal) := by
  pointwise [res_main_v57]
  simp only [v22 hv, v8_1, v5_1 hv, v33 hv, hv.g6, hv.b7, hv.wl, hv.b9, ofBits_64, ofBits_eps]
  simp only [norm_form (softmax (a.Z n)) (N := 64) (by norm_num) (by norm_num)]
  simp only [mul_one, add_zero, ← EReal.coe_mul]
  unfold cat
  by_cases h : (q : ℕ) < 64
  · rw [dif_pos h, dif_pos h]
  · rw [dif_neg h, dif_neg h, coe_sum]
    rfl

/-- The joined rows about their means. -/
theorem v5_2 (n : Fin 32768) (k : Fin 128) :
    res_main_call2_v5 V0 (ix2 n k) = ((cat (a.r n) (a.l n) k - mean (cat (a.r n) (a.l n)) : ℝ) : EReal) := by
  pointwise [res_main_call2_v5]
  simp only [v57 hv, ofBits_128]
  rw [mean_form _ (by norm_num) (by norm_num), EReal.coe_sub]

/-- The fused rows. -/
theorem v81 (n : Fin 32768) (j : Fin 64) : res_main_v81 V0 (ix2 n j) = (a.h n j : EReal) := by
  pointwise [res_main_v81]
  simp only [v57 hv, v8_2, v5_2 hv, hv.g10, hv.b11, hv.wf, hv.b13, ofBits_128, ofBits_eps]
  simp only [norm_form (cat (a.r n) (a.l n)) (N := 128) (by norm_num) (by norm_num)]
  simp only [mul_one, add_zero, ← EReal.coe_mul]
  rw [coe_sum, ← EReal.coe_zero, max_coe]
  rfl

end Cert.Flow

end
-- ==== Proof.RefResult.lean ====
module

public import proofs.«01_k».proof.Proof.RefRows

/-!
# What the reference's result holds

The attention weights, the flow vector and the result.
-/

@[expose] public section

set_option maxRecDepth 16384

noncomputable section

namespace Cert.Flow

open Idealize.ShloMosaic Idealize.ShloMosaic.TcCoe Idealize.SL.Sem
open Cert.ReferenceIdeal Cert.ReferenceIdeal.Gen Cert.ReferenceIdeal.Value

variable {V0 : Valuation τ sig (Elt Ideal)} {a : Inputs} {ba : ℝ} (hv : RefReads V0 a ba)

omit hv in
/-- The number of entries in the flow vector: 64. -/
theorem v8_4 : res_main_call4_v8 V0 ix0 = ((64 : ℝ) : EReal) := by
  pointwise [res_main_call4_v8]
  rw [ofBits_64, count_form]

include hv

/-- The attention scores, with the bias. -/
theorem v89 (n : Fin 32768) : res_main_v89 V0 (ix1 n) = ((a.s n + ba : ℝ) : EReal) := by
  pointwise [res_main_v89]
  simp only [v81 hv, hv.wa, hv.ba]
  simp only [← EReal.coe_mul]
  rw [coe_sum, ← EReal.coe_add, ← EReal.coe_one, div_coe_coe _ one_ne_zero, div_one]
  rfl

omit hv in
/-- A running maximum that starts finite, over finite values, stays finite. -/
theorem foldl_max_fin {ι : Type*} (f : ι → ℝ) : ∀ (L : List ι) (r : ℝ),
    ∃ v : ℝ, L.foldl (fun (b : EReal) i => max b (f i : EReal)) (r : EReal) = (v : EReal)
  | [], r => ⟨r, rfl⟩
  | i :: L, r => by
    rw [List.foldl_cons, max_coe]
    exact foldl_max_fin f L _

omit hv in
/-- A running maximum from minus infinity, over at least one finite value, is finite. -/
theorem foldl_max_bot {ι : Type*} (f : ι → ℝ) : ∀ (L : List ι) (_ : L ≠ []),
    ∃ v : ℝ, L.foldl (fun (b : EReal) i => max b (f i : EReal)) ⊥ = (v : EReal)
  | [], h => absurd rfl h
  | i :: L, _ => by
    rw [List.foldl_cons, bot_sup_eq]
    exact foldl_max_fin f L _

omit hv in
/-- The maximum of finitely many finite values, taken over the one axis, is finite. -/
theorem max_all (x : Vec Ideal S32768 .f32) (f : Fin 32768 → ℝ) (hx : ∀ n, x (ix1 n) = (f n : EReal)) :
    ∃ M : ℝ, Host.reduce (FloatOps.maximumf (F := Ideal) (φ := .f32)) x (constant (F := Ideal) S_ .f32 0xFF800000#32)
      reducesTo_S32768_S_d0 h_S_ ix0 = (M : EReal) := by
  have hn : 0 < S32768.numel := by decide
  choose g hg using finite1 x f hx
  have e : x = fun i => (g i : EReal) := funext hg
  rw [e]
  unfold Host.reduce
  have hb : (constant (F := Ideal) S_ .f32 0xFF800000#32) (Shape.Idx.first h_S_) = (⊥ : EReal) := ofBits_neg_inf
  rw [hb]
  refine foldl_max_bot (fun n => g (S32768.rowMajor.symm n)) _ (List.ne_nil_of_mem (a := ⟨0, hn⟩) (List.mem_filter.mpr ⟨List.mem_finRange _, ?_⟩))
  exact decide_eq_true (funext fun b : Fin 0 => b.elim0)

/-- The largest score is finite. -/
theorem scoreMax : ∃ M : ℝ, Host.reduce (FloatOps.maximumf (F := Ideal) (φ := .f32)) (res_main_v89 V0)
    (constant (F := Ideal) S_ .f32 0xFF800000#32) reducesTo_S32768_S_d0 h_S_ ix0 = (M : EReal) :=
  max_all _ (fun n => a.s n + ba) (v89 hv)

omit hv in
/-- The scores' exponentials, given the maximum. -/
theorem v95_form (x : Vec Ideal S32768 .f32) (K : Vec Ideal S_ .f32) (n : Fin 32768) :
    Host.exp (subf x (broadcastInDim S32768 ![0] bcast_S1_S32768_0 (broadcastInDim S1 ![] bcast_S_S1
      (maximumf (constant (F := Ideal) S_ .f32 0xFF800000#32) K)))) (ix1 n)
      = Ideal.exp (x (ix1 n) - max (Ideal.ofBits .f32 0xFF800000#32) (K ix0)) := by
  pointwise

/-- The scores' exponentials are those of the scores without the bias, shifted by some finite number. -/
theorem v95 : ∃ M : ℝ, ∀ n : Fin 32768, res_main_v95 V0 (ix1 n) = ((Real.exp (a.s n - M) : ℝ) : EReal) := by
  obtain ⟨M, hM⟩ := scoreMax hv
  refine ⟨M - ba, fun n => ?_⟩
  refine (v95_form _ _ n).trans ?_
  rw [hM, v89 hv, ofBits_neg_inf, bot_sup_eq, ← EReal.coe_sub, Ideal.exp_coe]
  exact congrArg (fun t : ℝ => ((Real.exp t : ℝ) : EReal)) (by ring)

omit hv in
/-- Shifting every score by the same number leaves the attention weights as they are. -/
theorem weights_shift (M : ℝ) (j : Fin 64) :
    ∑ n, Real.exp (a.s n - M) / (∑ i, Real.exp (a.s i - M)) * a.h n j = a.num j / a.den := by
  simp only [softmax_shift a.s M]
  unfold Inputs.num Inputs.den softmax
  rw [Finset.sum_div]
  exact Finset.sum_congr rfl fun n _ => by ring

/-- The flow vector. -/
theorem v109 (j : Fin 64) : res_main_v109 V0 (ix1 j) = (a.flow j : EReal) := by
  obtain ⟨M, hM⟩ := v95 hv
  pointwise [res_main_v109]
  simp only [hM, v22 hv, v81 hv, hv.gam, ofBits_32768]
  rw [coe_sum, coe_sum, div_coe_coe _ (by norm_num)]
  simp only [div_coe_coe _ (sum_exp_pos (by norm_num) fun n => a.s n - M).ne']
  simp only [← EReal.coe_mul]
  rw [coe_sum, weights_shift, ← EReal.coe_mul, ← EReal.coe_add, div_eq_mul_one_div]
  rfl

/-- The flow vector about its mean. -/
theorem v5_4 (k : Fin 64) : res_main_call4_v5 V0 (ix1 k) = ((a.flow k - mean a.flow : ℝ) : EReal) := by
  pointwise [res_main_call4_v5]
  simp only [v109 hv, ofBits_64]
  rw [mean_form _ (by norm_num) (by norm_num), EReal.coe_sub]

/-- The reference's result, entry by entry. -/
theorem ref_result (j : Fin 64) : (shapeCast S1x64 (addf (Host.divf (Host.reduceAdd (V0 (Proc.devRef .tc main_arg1)) (constant S_ .f32 0x00000000#32) reducesTo_S32768x64_S64_d0 h_S_) (broadcastInDim S64 ![] bcast_S_S64 (constant S_ .f32 0x47000000#32))) (mulf (broadcastInDim S64 ![] bcast_S_S64 (V0 (Proc.devRef .tc main_arg23))) (addf (Host.dotGeneral (φ₂ := .f32) dot_S64_S64x64_S64_0_0_n_1_n_n none (maximumf (addf (Host.dotGeneral (φ₂ := .f32) dot_S64_S64x64_S64_0_0_n_1_n_n none (addf (mulf (Host.divf (subf (res_main_v109 V0) (broadcastInDim S64 ![0] bcast_S1_S64_0 (Host.divf (broadcastInDim S1 ![] bcast_S_S1 (Host.reduceAdd (res_main_v109 V0) (constant S_ .f32 0x00000000#32) reducesTo_S64_S_d0 h_S_)) (broadcastInDim S1 ![] bcast_S_S1 (constant S_ .f32 0x42800000#32))))) (broadcastInDim S64 ![0] bcast_S1_S64_0 (Host.sqrt (addf (select (broadcastInDim S1 ![] bcast_S_S1 (cmpf .ogt (res_main_call4_v8 V0) (constant S_ .f32 0x00000000#32))) (Host.divf (broadcastInDim S1 ![] bcast_S_S1 (Host.reduceAdd (mulf (res_main_call4_v5 V0) (res_main_call4_v5 V0)) (constant S_ .f32 0x00000000#32) reducesTo_S64_S_d0 h_S_)) (broadcastInDim S1 ![] bcast_S_S1 (res_main_call4_v8 V0))) (broadcastInDim S1 ![] bcast_S_S1 (id (constant S_ .f32 0x7FC00000#32)))) (broadcastInDim S1 ![] bcast_S_S1 (constant S_ .f32 0x3727C5AC#32)))))) (V0 (Proc.devRef .tc main_arg17))) (V0 (Proc.devRef .tc main_arg18))) (transpose S64x64 [1, 0] (V0 (Proc.devRef .tc main_arg19)) transposes_S64x64_S64x64_1_0)) (V0 (Proc.devRef .tc main_arg20))) (broadcastInDim S64 ![] bcast_S_S64 (constant S_ .f32 0x00000000#32))) (transpose S64x64 [1, 0] (V0 (Proc.devRef .tc main_arg21)) transposes_S64x64_S64x64_1_0)) (V0 (Proc.devRef .tc main_arg22))))) shapeCasts_S64_S1x64 : Vec Ideal S1x64 .f32) (ix2 0 j)
    = a.result (fun i k => V0 (Proc.devRef .tc main_arg19) (ix2 k i)) (fun k j => V0 (Proc.devRef .tc main_arg21) (ix2 j k))
      (V0 (Proc.devRef .tc main_arg23) ix0) j := by
  pointwise
  simp only [v109 hv, v8_4, v5_4 hv, hv.z, hv.g17, hv.b18, hv.b20, hv.b22, ofBits_64, ofBits_eps, ofBits_32768]
  simp only [norm_form a.flow (N := 64) (by norm_num) (by norm_num)]
  simp only [mul_one, add_zero]
  rw [coe_sum, div_coe_coe _ (by norm_num), div_eq_mul_one_div]
  rfl

end Cert.Flow

end
-- ==== Proof.RefArguments.lean ====
module

public import proofs.«01_k».proof.Proof.Arguments
public import proofs.«01_k».proof.Proof.RefResult

/-!
# The reference's arguments, read
-/

@[expose] public section

set_option maxRecDepth 16384

noncomputable section

namespace Cert.Flow

open Idealize.ShloMosaic Idealize.ShloMosaic.TcCoe Idealize.SL.Sem

open Cert.Pre_plain_norms in
/-- If the reference's argument arrays are ones that the precondition holds of, they hold the model's inputs. -/
theorem ref_reads {x0 : Vec Ideal S32768x256 .f32} {x1 : Vec Ideal S32768x64 .f32} {x2 x3 : Vec Ideal S256 .f32}
    {x4 : Vec Ideal S64x256 .f32} {x5 x6 x7 : Vec Ideal S64 .f32} {x8 : Vec Ideal S64x64 .f32} {x9 : Vec Ideal S64 .f32}
    {x10 x11 : Vec Ideal S128 .f32} {x12 : Vec Ideal S64x128 .f32} {x13 : Vec Ideal S64 .f32} {x14 : Vec Ideal S1x64 .f32}
    {x15 : Vec Ideal S1 .f32} {x16 : Vec Ideal S_ .f32} {x17 x18 x20 x22 : Vec Ideal S64 .f32}
    (p : Plain x0 x1 x2 x3 x4 x5 x6 x7 x8 x9 x10 x11 x12 x13 x14 x15 x16 x17 x18 x20 x22)
    {V0 : Valuation Cert.ReferenceIdeal.τ Cert.ReferenceIdeal.sig (Elt Ideal)}
    (h0 : V0 (Proc.devRef .tc Cert.ReferenceIdeal.main_arg0) = x0)
    (h1 : V0 (Proc.devRef .tc Cert.ReferenceIdeal.main_arg1) = x1)
    (h2 : V0 (Proc.devRef .tc Cert.ReferenceIdeal.main_arg2) = x2)
    (h3 : V0 (Proc.devRef .tc Cert.ReferenceIdeal.main_arg3) = x3)
    (h4 : V0 (Proc.devRef .tc Cert.ReferenceIdeal.main_arg4) = x4)
    (h5 : V0 (Proc.devRef .tc Cert.ReferenceIdeal.main_arg5) = x5)
    (h6 : V0 (Proc.devRef .tc Cert.ReferenceIdeal.main_arg6) = x6)
    (h7 : V0 (Proc.devRef .tc Cert.ReferenceIdeal.main_arg7) = x7)
    (h8 : V0 (Proc.devRef .tc Cert.ReferenceIdeal.main_arg8) = x8)
    (h9 : V0 (Proc.devRef .tc Cert.ReferenceIdeal.main_arg9) = x9)
    (h10 : V0 (Proc.devRef .tc Cert.ReferenceIdeal.main_arg10) = x10)
    (h11 : V0 (Proc.devRef .tc Cert.ReferenceIdeal.main_arg11) = x11)
    (h12 : V0 (Proc.devRef .tc Cert.ReferenceIdeal.main_arg12) = x12)
    (h13 : V0 (Proc.devRef .tc Cert.ReferenceIdeal.main_arg13) = x13)
    (h14 : V0 (Proc.devRef .tc Cert.ReferenceIdeal.main_arg14) = x14)
    (h15 : V0 (Proc.devRef .tc Cert.ReferenceIdeal.main_arg15) = x15)
    (h16 : V0 (Proc.devRef .tc Cert.ReferenceIdeal.main_arg16) = x16)
    (h17 : V0 (Proc.devRef .tc Cert.ReferenceIdeal.main_arg17) = x17)
    (h18 : V0 (Proc.devRef .tc Cert.ReferenceIdeal.main_arg18) = x18)
    (h20 : V0 (Proc.devRef .tc Cert.ReferenceIdeal.main_arg20) = x20)
    (h22 : V0 (Proc.devRef .tc Cert.ReferenceIdeal.main_arg22) = x22) :
    RefReads V0 (inputs x0 x1 x4 x8 x12 x14 x16) (x15 (ix1 0)).toReal where
  x n k := (congrFun h0 _).trans (real_part (p.f0 _))
  z n k := (congrFun h1 _).trans (real_part (p.f1 _))
  g2 k := (congrFun h2 _).trans (p.g2 _)
  b3 k := (congrFun h3 _).trans (p.b3 _)
  wr k j := (congrFun h4 _).trans (real_part (p.f4 _))
  b5 k := (congrFun h5 _).trans (p.b5 _)
  g6 k := (congrFun h6 _).trans (p.g6 _)
  b7 k := (congrFun h7 _).trans (p.b7 _)
  wl k j := (congrFun h8 _).trans (real_part (p.f8 _))
  b9 k := (congrFun h9 _).trans (p.b9 _)
  g10 k := (congrFun h10 _).trans (p.g10 _)
  b11 k := (congrFun h11 _).trans (p.b11 _)
  wf k j := (congrFun h12 _).trans (real_part (p.f12 _))
  b13 k := (congrFun h13 _).trans (p.b13 _)
  wa j := (congrFun h14 _).trans (real_part (p.f14 _))
  ba := (congrFun h15 _).trans (real_part (p.f15 _))
  gam := (congrFun h16 _).trans (real_part p.f16)
  g17 k := (congrFun h17 _).trans (p.g17 _)
  b18 k := (congrFun h18 _).trans (p.b18 _)
  b20 k := (congrFun h20 _).trans (p.b20 _)
  b22 k := (congrFun h22 _).trans (p.b22 _)

end Cert.Flow

end
-- ==== Proof.lean ====
/-
The claims, assembled. The frames are those of the generated modules. The value claim reads the precondition
(`Pre.lean`), names the real numbers that the arguments hold (`Arguments.lean`), and puts side by side what the kernel's
result holds (`Fold.lean`) and what the reference's result holds (`RefResult.lean`): the same function of those numbers.
-/
module

public import proofs.«01_k».proof.Defs
public import proofs.«01_k».proof.Proof.Gen.Kernel.Frame
public import proofs.«01_k».proof.Proof.Gen.KernelIdeal.Value
public import proofs.«01_k».proof.Proof.Gen.Pre_plain_norms
public import proofs.«01_k».proof.Proof.Gen.ReferenceIdeal.Run
public import proofs.«01_k».proof.Proof.KernelArguments
public import proofs.«01_k».proof.Proof.RefArguments
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference leaves its arguments as they were and ends with every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre_plain_norms : quiescent_ReferenceIdeal_pre_plain_norms := fun m ρ _ =>
  quiescent_ReferenceIdeal m ρ trivial

/-- Under the precondition the kernel's result and the reference's are the same array. -/
theorem algebraic_KernelIdeal_ReferenceIdeal_pre_plain_norms : algebraic_KernelIdeal_ReferenceIdeal_pre_plain_norms := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6, h7, h8, h9, h10, h11, h12, h13, h14, h15, h16, h17, h18, h19, h20, h21, h22, h23⟩ := hagree c
  have p := Cert.Flow.plain_of_pre (hpre c)
  have hv := Cert.Flow.ref_reads p (V0 := fun b => m' (c, b)) h0 h1 h2 h3 h4 h5 h6 h7 h8 h9 h10 h11 h12 h13 h14 h15 h16 h17 h18 h20 h22
  funext i
  obtain ⟨j, rfl⟩ : ∃ j : Fin 64, i = ix2 0 j := by
    refine ⟨i 1, ?_⟩
    funext b
    fin_cases b
    · exact Fin.ext (by have h1 : (i 0).val < 1 := (i 0).isLt; show (i 0).val = 0; omega)
    · rfl
  refine (Cert.Flow.ref_result hv j).trans (.trans ?_ (Cert.Flow.kernel_result (Cert.Flow.reads p) j).symm)
  have e19 := fun i k : Fin 64 => congrFun h19 (ix2 k i)
  have e21 := fun k j : Fin 64 => congrFun h21 (ix2 j k)
  have e23 := congrFun h23 ix0
  exact congrFun (congr (congrArg₂ (Cert.Flow.Inputs.result _) (funext fun i => funext (e19 i)) (funext fun k => funext (e21 k))) e23) j

/-- The claims. -/
theorem claim : Cert.Claim := ⟨Cert.Kernel.Gen.facts, Cert.KernelIdeal.Gen.facts, Cert.ReferenceIdeal.Gen.facts, Cert.Pre_plain_norms.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_plain_norms, (trivial : preserves_Kernel_KernelIdeal), algebraic_KernelIdeal_ReferenceIdeal_pre_plain_norms⟩

end Cert.Proof

end
